-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "depth_step" .f32 0x3C820821#32 ((1 / 63 : ℝ) : EReal)
  ∧ IdealRules.named_const.Statement Cert.KernelIdeal.κ "grid_step" .f32 0x3C12F114#32 ((2 / 223 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S4x224x224 : Shape := ⟨3, ![4, 224, 224]⟩
abbrev S4x3x3 : Shape := ⟨3, ![4, 3, 3]⟩
abbrev S4x3 : Shape := ⟨2, ![4, 3]⟩
abbrev S4x2 : Shape := ⟨2, ![4, 2]⟩
abbrev S224x224x2 : Shape := ⟨3, ![224, 224, 2]⟩
abbrev S4x1x1 : Shape := ⟨3, ![4, 1, 1]⟩
abbrev S4 : Shape := ⟨1, ![4]⟩
abbrev S_ : Shape := ⟨0, ![]⟩

class Facts : Prop where
  slices_S4x3x3_S4x1x1_0_0_0 : S4x3x3.Slices ![0, 0, 0] S4x1x1
  shapeCasts_S4x1x1_S4 : S4x1x1.ShapeCasts S4
  slices_S4x3x3_S4x1x1_0_1_1 : S4x3x3.Slices ![0, 1, 1] S4x1x1
  slices_S4x3x3_S4x1x1_0_2_2 : S4x3x3.Slices ![0, 2, 2] S4x1x1
  slices_S4x3x3_S4x1x1_0_1_2 : S4x3x3.Slices ![0, 1, 2] S4x1x1
  slices_S4x3x3_S4x1x1_0_2_1 : S4x3x3.Slices ![0, 2, 1] S4x1x1
  slices_S4x3x3_S4x1x1_0_0_1 : S4x3x3.Slices ![0, 0, 1] S4x1x1
  slices_S4x3x3_S4x1x1_0_1_0 : S4x3x3.Slices ![0, 1, 0] S4x1x1
  slices_S4x3x3_S4x1x1_0_2_0 : S4x3x3.Slices ![0, 2, 0] S4x1x1
  slices_S4x3x3_S4x1x1_0_0_2 : S4x3x3.Slices ![0, 0, 2] S4x1x1
  bcast_S_S4x3x3 : S_.BroadcastsInDim S4x3x3 (![] : Fin 0 → Fin S4x3x3.rank)
  bcast_S_S4x3 : S_.BroadcastsInDim S4x3 (![] : Fin 0 → Fin S4x3.rank)
  bcast_S_S4x2 : S_.BroadcastsInDim S4x2 (![] : Fin 0 → Fin S4x2.rank)
  bcast_S_S4 : S_.BroadcastsInDim S4 (![] : Fin 0 → Fin S4.rank)

variable [Facts]

def fn_part2 {F : FTy → Type} [FloatOps F] (main_arg2 : FVec F S4x3 .f32) (main_arg3 : FVec F S4x2 .f32) (main_arg4 : FVec F S4x2 .f32) (main_v43 : FVec F S4 .f32) (main_v46 : IVec S4x3x3 1) : IVec S4x3x3 1 × IVec S4x3 1 × IVec S4x2 1 × IVec S4x2 1 × IVec S4 1 :=
  let main_v47 : FVec F S4x3 .f32 := Host.absf main_arg2
  let main_cst_0 : FVec F S_ .f32 := constant S_ .f32 0x7F800000#32
  let main_v48 : FVec F S4x3 .f32 := broadcastInDim S4x3 ![] bcast_S_S4x3 main_cst_0
  let main_v49 : IVec S4x3 1 := cmpf .olt main_v47 main_v48
  let main_v50 : FVec F S4x2 .f32 := Host.absf main_arg4
  let main_cst_1 : FVec F S_ .f32 := constant S_ .f32 0x7F800000#32
  let main_v51 : FVec F S4x2 .f32 := broadcastInDim S4x2 ![] bcast_S_S4x2 main_cst_1
  let main_v52 : IVec S4x2 1 := cmpf .olt main_v50 main_v51
  let main_cst_2 : FVec F S_ .f32 := constant S_ .f32 0x00000000#32
  let main_v53 : FVec F S4x2 .f32 := broadcastInDim S4x2 ![] bcast_S_S4x2 main_cst_2
  let main_v54 : IVec S4x2 1 := cmpf .une main_arg3 main_v53
  let main_cst_3 : FVec F S_ .f32 := constant S_ .f32 0x00000000#32
  let main_v55 : FVec F S4 .f32 := broadcastInDim S4 ![] bcast_S_S4 main_cst_3
  let main_v56 : IVec S4 1 := cmpf .une main_v43 main_v55
  (main_v46, main_v49, main_v52, main_v54, main_v56)

def fn_part1 {F : FTy → Type} [FloatOps F] (main_arg1 : FVec F S4x3x3 .f32) (main_arg2 : FVec F S4x3 .f32) (main_arg3 : FVec F S4x2 .f32) (main_arg4 : FVec F S4x2 .f32) (main_v13 : FVec F S4 .f32) (main_v15 : FVec F S4 .f32) (main_v20 : FVec F S4 .f32) (main_v22 : FVec F S4 .f32) (main_v23 : FVec F S4x1x1 .f32) : IVec S4x3x3 1 × IVec S4x3 1 × IVec S4x2 1 × IVec S4x2 1 × IVec S4 1 :=
  let main_v24 : FVec F S4 .f32 := shapeCast S4 main_v23 shapeCasts_S4x1x1_S4
  let main_v25 : FVec F S4 .f32 := mulf main_v22 main_v24
  let main_v26 : FVec F S4 .f32 := subf main_v20 main_v25
  let main_v27 : FVec F S4 .f32 := mulf main_v15 main_v26
  let main_v28 : FVec F S4 .f32 := subf main_v13 main_v27
  let main_v29 : FVec F S4x1x1 .f32 := (extractStridedSlice S4x1x1 ![0, 0, 2] · slices_S4x3x3_S4x1x1_0_0_2) main_arg1
  let main_v30 : FVec F S4 .f32 := shapeCast S4 main_v29 shapeCasts_S4x1x1_S4
  let main_v31 : FVec F S4x1x1 .f32 := (extractStridedSlice S4x1x1 ![0, 1, 0] · slices_S4x3x3_S4x1x1_0_1_0) main_arg1
  let main_v32 : FVec F S4 .f32 := shapeCast S4 main_v31 shapeCasts_S4x1x1_S4
  let main_v33 : FVec F S4x1x1 .f32 := (extractStridedSlice S4x1x1 ![0, 2, 1] · slices_S4x3x3_S4x1x1_0_2_1) main_arg1
  let main_v34 : FVec F S4 .f32 := shapeCast S4 main_v33 shapeCasts_S4x1x1_S4
  let main_v35 : FVec F S4 .f32 := mulf main_v32 main_v34
  let main_v36 : FVec F S4x1x1 .f32 := (extractStridedSlice S4x1x1 ![0, 1, 1] · slices_S4x3x3_S4x1x1_0_1_1) main_arg1
  let main_v37 : FVec F S4 .f32 := shapeCast S4 main_v36 shapeCasts_S4x1x1_S4
  let main_v38 : FVec F S4x1x1 .f32 := (extractStridedSlice S4x1x1 ![0, 2, 0] · slices_S4x3x3_S4x1x1_0_2_0) main_arg1
  let main_v39 : FVec F S4 .f32 := shapeCast S4 main_v38 shapeCasts_S4x1x1_S4
  let main_v40 : FVec F S4 .f32 := mulf main_v37 main_v39
  let main_v41 : FVec F S4 .f32 := subf main_v35 main_v40
  let main_v42 : FVec F S4 .f32 := mulf main_v30 main_v41
  let main_v43 : FVec F S4 .f32 := addf main_v28 main_v42
  let main_v44 : FVec F S4x3x3 .f32 := Host.absf main_arg1
  let main_cst : FVec F S_ .f32 := constant S_ .f32 0x7F800000#32
  let main_v45 : FVec F S4x3x3 .f32 := broadcastInDim S4x3x3 ![] bcast_S_S4x3x3 main_cst
  let main_v46 : IVec S4x3x3 1 := cmpf .olt main_v44 main_v45
  fn_part2 (F := F) main_arg2 main_arg3 main_arg4 main_v43 main_v46

def fn {F : FTy → Type} [FloatOps F] (main_arg0 : FVec F S4x224x224 .f32) (main_arg1 : FVec F S4x3x3 .f32) (main_arg2 : FVec F S4x3 .f32) (main_arg3 : FVec F S4x2 .f32) (main_arg4 : FVec F S4x2 .f32) (main_arg5 : FVec F S224x224x2 .f32) : IVec S4x3x3 1 × IVec S4x3 1 × IVec S4x2 1 × IVec S4x2 1 × IVec S4 1 :=
  let main_v0 : FVec F S4x1x1 .f32 := (extractStridedSlice S4x1x1 ![0, 0, 0] · slices_S4x3x3_S4x1x1_0_0_0) main_arg1
  let main_v1 : FVec F S4 .f32 := shapeCast S4 main_v0 shapeCasts_S4x1x1_S4
  let main_v2 : FVec F S4x1x1 .f32 := (extractStridedSlice S4x1x1 ![0, 1, 1] · slices_S4x3x3_S4x1x1_0_1_1) main_arg1
  let main_v3 : FVec F S4 .f32 := shapeCast S4 main_v2 shapeCasts_S4x1x1_S4
  let main_v4 : FVec F S4x1x1 .f32 := (extractStridedSlice S4x1x1 ![0, 2, 2] · slices_S4x3x3_S4x1x1_0_2_2) main_arg1
  let main_v5 : FVec F S4 .f32 := shapeCast S4 main_v4 shapeCasts_S4x1x1_S4
  let main_v6 : FVec F S4 .f32 := mulf main_v3 main_v5
  let main_v7 : FVec F S4x1x1 .f32 := (extractStridedSlice S4x1x1 ![0, 1, 2] · slices_S4x3x3_S4x1x1_0_1_2) main_arg1
  let main_v8 : FVec F S4 .f32 := shapeCast S4 main_v7 shapeCasts_S4x1x1_S4
  let main_v9 : FVec F S4x1x1 .f32 := (extractStridedSlice S4x1x1 ![0, 2, 1] · slices_S4x3x3_S4x1x1_0_2_1) main_arg1
  let main_v10 : FVec F S4 .f32 := shapeCast S4 main_v9 shapeCasts_S4x1x1_S4
  let main_v11 : FVec F S4 .f32 := mulf main_v8 main_v10
  let main_v12 : FVec F S4 .f32 := subf main_v6 main_v11
  let main_v13 : FVec F S4 .f32 := mulf main_v1 main_v12
  let main_v14 : FVec F S4x1x1 .f32 := (extractStridedSlice S4x1x1 ![0, 0, 1] · slices_S4x3x3_S4x1x1_0_0_1) main_arg1
  let main_v15 : FVec F S4 .f32 := shapeCast S4 main_v14 shapeCasts_S4x1x1_S4
  let main_v16 : FVec F S4x1x1 .f32 := (extractStridedSlice S4x1x1 ![0, 1, 0] · slices_S4x3x3_S4x1x1_0_1_0) main_arg1
  let main_v17 : FVec F S4 .f32 := shapeCast S4 main_v16 shapeCasts_S4x1x1_S4
  let main_v18 : FVec F S4x1x1 .f32 := (extractStridedSlice S4x1x1 ![0, 2, 2] · slices_S4x3x3_S4x1x1_0_2_2) main_arg1
  let main_v19 : FVec F S4 .f32 := shapeCast S4 main_v18 shapeCasts_S4x1x1_S4
  let main_v20 : FVec F S4 .f32 := mulf main_v17 main_v19
  let main_v21 : FVec F S4x1x1 .f32 := (extractStridedSlice S4x1x1 ![0, 1, 2] · slices_S4x3x3_S4x1x1_0_1_2) main_arg1
  let main_v22 : FVec F S4 .f32 := shapeCast S4 main_v21 shapeCasts_S4x1x1_S4
  let main_v23 : FVec F S4x1x1 .f32 := (extractStridedSlice S4x1x1 ![0, 2, 0] · slices_S4x3x3_S4x1x1_0_2_0) main_arg1
  fn_part1 (F := F) main_arg1 main_arg2 main_arg3 main_arg4 main_v13 main_v15 main_v20 main_v22 main_v23
-- ==== Kernel.lean ====
abbrev S4x224x224 : Shape := ⟨3, ![4, 224, 224]⟩
abbrev S4x3x3 : Shape := ⟨3, ![4, 3, 3]⟩
abbrev S4x3 : Shape := ⟨2, ![4, 3]⟩
abbrev S4x2 : Shape := ⟨2, ![4, 2]⟩
abbrev S224x224x2 : Shape := ⟨3, ![224, 224, 2]⟩
abbrev S4x9 : Shape := ⟨2, ![4, 9]⟩
abbrev S4x16 : Shape := ⟨2, ![4, 16]⟩
abbrev S4x1x16 : Shape := ⟨3, ![4, 1, 16]⟩
abbrev S4x224x64x224 : Shape := ⟨4, ![4, 224, 64, 224]⟩
abbrev S4x3x224x224 : Shape := ⟨4, ![4, 3, 224, 224]⟩
abbrev S1x1x16 : Shape := ⟨3, ![1, 1, 16]⟩
abbrev S1x112x224 : Shape := ⟨3, ![1, 112, 224]⟩
abbrev S1x112x64x224 : Shape := ⟨4, ![1, 112, 64, 224]⟩
abbrev S1x3x112x224 : Shape := ⟨4, ![1, 3, 112, 224]⟩
abbrev S1x1x1 : Shape := ⟨3, ![1, 1, 1]⟩
abbrev S112x224 : Shape := ⟨2, ![112, 224]⟩
abbrev S64x1 : Shape := ⟨2, ![64, 1]⟩
abbrev S64x224 : Shape := ⟨2, ![64, 224]⟩
abbrev S1x224 : Shape := ⟨2, ![1, 224]⟩
abbrev S1x1x64x224 : Shape := ⟨4, ![1, 1, 64, 224]⟩
abbrev S112x1 : Shape := ⟨2, ![112, 1]⟩
abbrev S1x1x112x224 : Shape := ⟨4, ![1, 1, 112, 224]⟩
abbrev S4x224x224x3 : Shape := ⟨4, ![4, 224, 224, 3]⟩
abbrev S4x224x224x64 : Shape := ⟨4, ![4, 224, 224, 64]⟩
abbrev S1x224x224x2 : Shape := ⟨4, ![1, 224, 224, 2]⟩
abbrev S4x224x224x2 : Shape := ⟨4, ![4, 224, 224, 2]⟩

abbrev nBuf : Space → Nat
  | .hbm => 17
  | .vmem => 8
  | .smem => 2
  | _ => 0

abbrev bufTy : (tb : Table) → Fin (tcTables nBuf tb) → BufTy
  | .hbm, ⟨0, _⟩ => ⟨S4x224x224, .f32⟩
  | .hbm, ⟨1, _⟩ => ⟨S4x3x3, .f32⟩
  | .hbm, ⟨2, _⟩ => ⟨S4x3, .f32⟩
  | .hbm, ⟨3, _⟩ => ⟨S4x2, .f32⟩
  | .hbm, ⟨4, _⟩ => ⟨S4x2, .f32⟩
  | .hbm, ⟨5, _⟩ => ⟨S224x224x2, .f32⟩
  | .hbm, ⟨6, _⟩ => ⟨S4x9, .f32⟩
  | .hbm, ⟨7, _⟩ => ⟨S4x16, .f32⟩
  | .hbm, ⟨8, _⟩ => ⟨S4x1x16, .f32⟩
  | .hbm, ⟨9, _⟩ => ⟨S4x224x64x224, .f32⟩
  | .hbm, ⟨10, _⟩ => ⟨S4x3x224x224, .f32⟩
  | .hbm, ⟨11, _⟩ => ⟨S4x3x224x224, .f32⟩
  | .hbm, ⟨12, _⟩ => ⟨S4x224x224x3, .f32⟩
  | .hbm, ⟨13, _⟩ => ⟨S4x224x224x3, .f32⟩
  | .hbm, ⟨14, _⟩ => ⟨S4x224x224x64, .f32⟩
  | .hbm, ⟨15, _⟩ => ⟨S1x224x224x2, .f32⟩
  | .hbm, ⟨16, _⟩ => ⟨S4x224x224x2, .f32⟩
  | .local _ .vmem, ⟨0, _⟩ => ⟨S1x112x224, .f32⟩
  | .local _ .vmem, ⟨1, _⟩ => ⟨S1x112x224, .f32⟩
  | .local _ .vmem, ⟨2, _⟩ => ⟨S1x112x64x224, .f32⟩
  | .local _ .vmem, ⟨3, _⟩ => ⟨S1x112x64x224, .f32⟩
  | .local _ .vmem, ⟨4, _⟩ => ⟨S1x3x112x224, .f32⟩
  | .local _ .vmem, ⟨5, _⟩ => ⟨S1x3x112x224, .f32⟩
  | .local _ .vmem, ⟨6, _⟩ => ⟨S1x3x112x224, .f32⟩
  | .local _ .vmem, ⟨7, _⟩ => ⟨S1x3x112x224, .f32⟩
  | .local _ .smem, ⟨0, _⟩ => ⟨S1x1x16, .f32⟩
  | .local _ .smem, ⟨1, _⟩ => ⟨S1x1x16, .f32⟩
  | _, _ => ⟨S4x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .smem S1x1x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x112x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x64x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x112x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x112x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "depth_step" => some ((1 / 63 : ℝ) : EReal)
  | "grid_step" => some ((2 / 223 : ℝ) : EReal)
  | _ => none
-- ==== ReferenceIdeal.lean ====
abbrev S4x224x224 : Shape := ⟨3, ![4, 224, 224]⟩
abbrev S4x3x3 : Shape := ⟨3, ![4, 3, 3]⟩
abbrev S4x3 : Shape := ⟨2, ![4, 3]⟩
abbrev S4x2 : Shape := ⟨2, ![4, 2]⟩
abbrev S224x224x2 : Shape := ⟨3, ![224, 224, 2]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S224x224x1 : Shape := ⟨3, ![224, 224, 1]⟩
abbrev S4x50176x1 : Shape := ⟨3, ![4, 50176, 1]⟩
abbrev S63 : Shape := ⟨1, ![63]⟩
abbrev S64 : Shape := ⟨1, ![64]⟩
abbrev S1x1x64 : Shape := ⟨3, ![1, 1, 64]⟩
abbrev S4x50176x64 : Shape := ⟨3, ![4, 50176, 64]⟩
abbrev S1x1x50176x2 : Shape := ⟨4, ![1, 1, 50176, 2]⟩
abbrev S4x2x50176x2 : Shape := ⟨4, ![4, 2, 50176, 2]⟩
abbrev S4x100352x2 : Shape := ⟨3, ![4, 100352, 2]⟩
abbrev S4x100352x1 : Shape := ⟨3, ![4, 100352, 1]⟩
abbrev S4x100352x3 : Shape := ⟨3, ![4, 100352, 3]⟩
abbrev S4x1x2 : Shape := ⟨3, ![4, 1, 2]⟩
abbrev S4x1x3 : Shape := ⟨3, ![4, 1, 3]⟩
abbrev S4x50176x3 : Shape := ⟨3, ![4, 50176, 3]⟩
abbrev S4x50176 : Shape := ⟨2, ![4, 50176]⟩
abbrev S4x224x224x3 : Shape := ⟨4, ![4, 224, 224, 3]⟩
abbrev S4x224x224x64 : Shape := ⟨4, ![4, 224, 224, 64]⟩
abbrev S1x224x224x2 : Shape := ⟨4, ![1, 224, 224, 2]⟩
abbrev S4x224x224x2 : Shape := ⟨4, ![4, 224, 224, 2]⟩

abbrev nBuf : Space → Nat
  | .hbm => 128
  | .vmem => 0
  | .smem => 0
  | _ => 0

abbrev bufTy : (tb : Table) → Fin (tcTables nBuf tb) → BufTy
  | .hbm, ⟨0, _⟩ => ⟨S4x224x224, .f32⟩
  | .hbm, ⟨1, _⟩ => ⟨S4x3x3, .f32⟩
  | .hbm, ⟨2, _⟩ => ⟨S4x3, .f32⟩
  | .hbm, ⟨3, _⟩ => ⟨S4x2, .f32⟩
  | .hbm, ⟨4, _⟩ => ⟨S4x2, .f32⟩
  | .hbm, ⟨5, _⟩ => ⟨S224x224x2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S223, .f32⟩
  | .hbm, ⟨14, _⟩ => ⟨S_, .f32⟩
  | .hbm, ⟨15, _⟩ => ⟨S223, .f32⟩
  | .hbm, ⟨16, _⟩ => ⟨S223, .f32⟩
  | .hbm, ⟨17, _⟩ => ⟨S1, .f32⟩
  | .hbm, ⟨18, _⟩ => ⟨S_, .f32⟩
  | .hbm, ⟨19, _⟩ => ⟨S223, .f32⟩
  | .hbm, ⟨20, _⟩ => ⟨S223, .f32⟩
  | .hbm, ⟨21, _⟩ => ⟨S223, .f32⟩
  | .hbm, ⟨22, _⟩ => ⟨S223, .f32⟩
  | .hbm, ⟨23, _⟩ => ⟨S1, .f32⟩
  | .hbm, ⟨24, _⟩ => ⟨S223, .f32⟩
  | .hbm, ⟨25, _⟩ => ⟨S223, .f32⟩
  | .hbm, ⟨26, _⟩ => ⟨S223, .f32⟩
  | .hbm, ⟨27, _⟩ => ⟨S1, .f32⟩
  | .hbm, ⟨28, _⟩ => ⟨S224, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S223, .f32⟩
  | .hbm, ⟨37, _⟩ => ⟨S_, .f32⟩
  | .hbm, ⟨38, _⟩ => ⟨S223, .f32⟩
  | .hbm, ⟨39, _⟩ => ⟨S223, .f32⟩
  | .hbm, ⟨40, _⟩ => ⟨S1, .f32⟩
  | .hbm, ⟨41, _⟩ => ⟨S_, .f32⟩
  | .hbm, ⟨42, _⟩ => ⟨S223, .f32⟩
  | .hbm, ⟨43, _⟩ => ⟨S223, .f32⟩
  | .hbm, ⟨44, _⟩ => ⟨S223, .f32⟩
  | .hbm, ⟨45, _⟩ => ⟨S223, .f32⟩
  | .hbm, ⟨46, _⟩ => ⟨S1, .f32⟩
  | .hbm, ⟨47, _⟩ => ⟨S223, .f32⟩
  | .hbm, ⟨48, _⟩ => ⟨S223, .f32⟩
  | .hbm, ⟨49, _⟩ => ⟨S223, .f32⟩
  | .hbm, ⟨50, _⟩ => ⟨S1, .f32⟩
  | .hbm, ⟨51, _⟩ => ⟨S224, .f32⟩
  | .hbm, ⟨52, _⟩ => ⟨S224x224, .f32⟩
  | .hbm, ⟨53, _⟩ => ⟨S224x224, .f32⟩
  | .hbm, ⟨54, _⟩ => ⟨S224x224x1, .f32⟩
  | .hbm, ⟨55, _⟩ => ⟨S224x224x1, .f32⟩
  | .hbm, ⟨56, _⟩ => ⟨S224x224x2, .f32⟩
  | .hbm, ⟨57, _⟩ => ⟨S4x50176x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S63, .f32⟩
  | .hbm, ⟨66, _⟩ => ⟨S_, .f32⟩
  | .hbm, ⟨67, _⟩ => ⟨S63, .f32⟩
  | .hbm, ⟨68, _⟩ => ⟨S63, .f32⟩
  | .hbm, ⟨69, _⟩ => ⟨S1, .f32⟩
  | .hbm, ⟨70, _⟩ => ⟨S_, .f32⟩
  | .hbm, ⟨71, _⟩ => ⟨S63, .f32⟩
  | .hbm, ⟨72, _⟩ => ⟨S63, .f32⟩
  | .hbm, ⟨73, _⟩ => ⟨S63, .f32⟩
  | .hbm, ⟨74, _⟩ => ⟨S63, .f32⟩
  | .hbm, ⟨75, _⟩ => ⟨S1, .f32⟩
  | .hbm, ⟨76, _⟩ => ⟨S63, .f32⟩
  | .hbm, ⟨77, _⟩ => ⟨S63, .f32⟩
  | .hbm, ⟨78, _⟩ => ⟨S63, .f32⟩
  | .hbm, ⟨79, _⟩ => ⟨S1, .f32⟩
  | .hbm, ⟨80, _⟩ => ⟨S64, .f32⟩
  | .hbm, ⟨81, _⟩ => ⟨S1x1x64, .f32⟩
  | .hbm, ⟨82, _⟩ => ⟨S4x50176x64, .f32⟩
  | .hbm, ⟨83, _⟩ => ⟨S4x50176x64, .f32⟩
  | .hbm, ⟨84, _⟩ => ⟨S4x50176x64, .f32⟩
  | .hbm, ⟨85, _⟩ => ⟨S1x1x50176x2, .f32⟩
  | .hbm, ⟨86, _⟩ => ⟨S4x2x50176x2, .f32⟩
  | .hbm, ⟨87, _⟩ => ⟨S4x100352x2, .f32⟩
  | .hbm, ⟨88, _⟩ => ⟨S_, .f32⟩
  | .hbm, ⟨89, _⟩ => ⟨S4x50176x1, .f32⟩
  | .hbm, ⟨90, _⟩ => ⟨S_, .f32⟩
  | .hbm, ⟨91, _⟩ => ⟨S4x50176x1, .f32⟩
  | .hbm, ⟨92, _⟩ => ⟨S_, .f32⟩
  | .hbm, ⟨93, _⟩ => ⟨S4x50176x1, .f32⟩
  | .hbm, ⟨94, _⟩ => ⟨S4x50176x1, .f32⟩
  | .hbm, ⟨95, _⟩ => ⟨S4x100352x1, .f32⟩
  | .hbm, ⟨96, _⟩ => ⟨S4x100352x3, .f32⟩
  | .hbm, ⟨97, _⟩ => ⟨S4x100352x2, .f32⟩
  | .hbm, ⟨98, _⟩ => ⟨S4x100352x1, .f32⟩
  | .hbm, ⟨99, _⟩ => ⟨S4x1x2, .f32⟩
  | .hbm, ⟨100, _⟩ => ⟨S4x100352x2, .f32⟩
  | .hbm, ⟨101, _⟩ => ⟨S4x100352x2, .f32⟩
  | .hbm, ⟨102, _⟩ => ⟨S4x100352x2, .f32⟩
  | .hbm, ⟨103, _⟩ => ⟨S4x100352x2, .f32⟩
  | .hbm, ⟨104, _⟩ => ⟨S4x1x2, .f32⟩
  | .hbm, ⟨105, _⟩ => ⟨S4x100352x2, .f32⟩
  | .hbm, ⟨106, _⟩ => ⟨S4x100352x2, .f32⟩
  | .hbm, ⟨107, _⟩ => ⟨S4x100352x3, .f32⟩
  | .hbm, ⟨108, _⟩ => ⟨S4x1x3, .f32⟩
  | .hbm, ⟨109, _⟩ => ⟨S4x100352x3, .f32⟩
  | .hbm, ⟨110, _⟩ => ⟨S4x100352x3, .f32⟩
  | .hbm, ⟨111, _⟩ => ⟨S4x100352x3, .f32⟩
  | .hbm, ⟨112, _⟩ => ⟨S4x50176x3, .f32⟩
  | .hbm, ⟨113, _⟩ => ⟨S4x50176x3, .f32⟩
  | .hbm, ⟨114, _⟩ => ⟨S4x50176x3, .f32⟩
  | .hbm, ⟨115, _⟩ => ⟨S4x50176x3, .f32⟩
  | .hbm, ⟨116, _⟩ => ⟨S4x50176x3, .f32⟩
  | .hbm, ⟨117, _⟩ => ⟨S_, .f32⟩
  | .hbm, ⟨118, _⟩ => ⟨S4x50176, .f32⟩
  | .hbm, ⟨119, _⟩ => ⟨S4x50176x1, .f32⟩
  | .hbm, ⟨120, _⟩ => ⟨S4x50176x1, .f32⟩
  | .hbm, ⟨121, _⟩ => ⟨S4x50176x3, .f32⟩
  | .hbm, ⟨122, _⟩ => ⟨S4x50176x3, .f32⟩
  | .hbm, ⟨123, _⟩ => ⟨S4x224x224x3, .f32⟩
  | .hbm, ⟨124, _⟩ => ⟨S4x224x224x3, .f32⟩
  | .hbm, ⟨125, _⟩ => ⟨S4x224x224x64, .f32⟩
  | .hbm, ⟨126, _⟩ => ⟨S1x224x224x2, .f32⟩
  | .hbm, ⟨127, _⟩ => ⟨S4x224x224x2, .f32⟩
  | _, _ => ⟨S4x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_cst_1 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_cst : Ref sig .tc := ⟨.hbm, 34, rfl⟩
abbrev main_call1_v3 : Ref sig .tc := ⟨.hbm, 35, rfl⟩
abbrev main_call1_v4 : Ref sig .tc := ⟨.hbm, 36, rfl⟩
abbrev main_call1_cst_0 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst_3 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_cst : Ref sig .tc := ⟨.hbm, 63, rfl⟩
abbrev main_call2_v3 : Ref sig .tc := ⟨.hbm, 64, rfl⟩
abbrev main_call2_v4 : Ref sig .tc := ⟨.hbm, 65, rfl⟩
abbrev main_call2_cst_0 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_cst_1 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_v15 : Ref sig .tc := ⟨.hbm, 78, rfl⟩
abbrev main_call2_v16 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_cst_5 : Ref sig .tc := ⟨.hbm, 88, rfl⟩
abbrev main_v16 : Ref sig .tc := ⟨.hbm, 89, rfl⟩
abbrev main_cst_6 : Ref sig .tc := ⟨.hbm, 90, rfl⟩
abbrev main_v17 : Ref sig .tc := ⟨.hbm, 91, rfl⟩
abbrev main_cst_7 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_call3_v0 : Ref sig .tc := ⟨.hbm, 116, rfl⟩
abbrev main_call3_cst : Ref sig .tc := ⟨.hbm, 117, rfl⟩
abbrev main_call3_v1 : Ref sig .tc := ⟨.hbm, 118, rfl⟩
abbrev main_call3_v2 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩

abbrev nD : Nat := 1
abbrev τ : Topo := Topo.v7x

variable {F : FTy → Type} [FloatOps F]
-- ==== Proof.Camera.lean ====
module

public import Idealize.ShloMosaic.PureOps.Ideal

/-! # One pixel of one camera, as either program computes it

A camera of the kernel is sixteen numbers: focal lengths (0, 1), principal point (2, 3), the rotation's rows (4 to 12), the translation
(13 to 15). A pixel is its image row `h` and column `w`. -/

@[expose] public section
noncomputable section
namespace Cert.Rays
open Idealize.ShloMosaic

/-- The grid coordinate `2 n / 223 - 1` of line `n`, by the step. -/
def tick (n : ℕ) : EReal := ((n : ℝ) : EReal) * ((2 / 223 : ℝ) : EReal) - 1

/-- `tick` among reals. -/
theorem tick_real (n : ℕ) : tick n = (((n : ℝ) * (2 / 223) - 1 : ℝ) : EReal) := by
  unfold tick
  rw [← EReal.coe_one]
  norm_cast

/-- The column's coordinate on the plane at depth one. -/
def colX (p : Fin 16 → EReal) (w : ℕ) : EReal := Ideal.div (tick w - p 2) (p 0)

/-- The row's coordinate on the plane at depth one. -/
def rowY (p : Fin 16 → EReal) (h : ℕ) : EReal := Ideal.div (tick h - p 3) (p 1)

/-- A world component of the ray, not yet of length one, by one row `(a, b, c)` of the rotation. -/
def ray (p : Fin 16 → EReal) (h w : ℕ) (a b c : EReal) : EReal := colX p w * a + rowY p h * b + c

/-- Entry `j` of row `c` of the rotation. -/
def rot (p : Fin 16 → EReal) (c j : Fin 3) : EReal := p ⟨4 + 3 * c.val + j.val, by omega⟩

/-- World component `c` of the ray. -/
def comp (p : Fin 16 → EReal) (c : Fin 3) (h w : ℕ) : EReal := ray p h w (rot p c 0) (rot p c 1) (rot p c 2)

/-- The ray's squared length. -/
def sumSq (p : Fin 16 → EReal) (h w : ℕ) : EReal :=
  comp p 0 h w * comp p 0 h w + comp p 1 h w * comp p 1 h w + comp p 2 h w * comp p 2 h w

/-- The inverse length of squared length `s`: the reciprocal root, with one Newton step. -/
def invLen (s : EReal) : EReal :=
  Ideal.rsqrt s * (((3 / 2 : ℝ) : EReal) - ((1 / 2 : ℝ) : EReal) * s * Ideal.rsqrt s * Ideal.rsqrt s)

/-- World component `c` of the unit direction. -/
def unitDir (p : Fin 16 → EReal) (c : Fin 3) (h w : ℕ) : EReal := comp p c h w * invLen (sumSq p h w)

/-- World component `c` of the camera's centre. -/
def centre (p : Fin 16 → EReal) (c : Fin 3) : EReal := 0 - (p 13 * rot p c 0 + p 14 * rot p c 1 + p 15 * rot p c 2)

/-- Sample `k` of 64 along a ray whose depth is `z`. -/
def sample (k : ℕ) (z : EReal) : EReal := (((k : ℝ) : EReal) * ((1 / 63 : ℝ) : EReal) + ((1 / 2 : ℝ) : EReal)) * z

/-- The sixteen numbers of a camera of rotation `R`, translation `t`, focal lengths `f` and principal point `q`. -/
def packed (R : Fin 3 → Fin 3 → EReal) (t : Fin 3 → EReal) (f q : Fin 2 → EReal) : Fin 16 → EReal :=
  ![f 0, f 1, q 0, q 1, R 0 0, R 0 1, R 0 2, R 1 0, R 1 1, R 1 2, R 2 0, R 2 1, R 2 2, t 0, t 1, t 2]

/-- The pixel's point in the plane of depth `z`, taken back through the focal lengths and the translation. -/
def undone (t : Fin 3 → EReal) (f q : Fin 2 → EReal) (z : EReal) (h w : ℕ) : Fin 3 → EReal :=
  ![Ideal.div ((tick w - q 0) * z) (f 0) - t 0, Ideal.div ((tick h - q 1) * z) (f 1) - t 1, z - t 2]

/-- World component `c` of that point, by the rotation's row. -/
def world (R : Fin 3 → Fin 3 → EReal) (t : Fin 3 → EReal) (f q : Fin 2 → EReal) (z : EReal) (h w : ℕ) (c : Fin 3) : EReal :=
  ∑ k : Fin 3, undone t f q z h w k * R c k

/-- From the point at depth one to the point at depth two. -/
def span (R : Fin 3 → Fin 3 → EReal) (t : Fin 3 → EReal) (f q : Fin 2 → EReal) (h w : ℕ) (c : Fin 3) : EReal :=
  world R t f q ((2 : ℝ) : EReal) h w c - world R t f q ((1 : ℝ) : EReal) h w c

/-- The ray's origin: as far before the point at depth one. -/
def start (R : Fin 3 → Fin 3 → EReal) (t : Fin 3 → EReal) (f q : Fin 2 → EReal) (h w : ℕ) (c : Fin 3) : EReal :=
  world R t f q ((1 : ℝ) : EReal) h w c - span R t f q h w c

/-- The unit direction, by division through the length. -/
def heading (R : Fin 3 → Fin 3 → EReal) (t : Fin 3 → EReal) (f q : Fin 2 → EReal) (h w : ℕ) (c : Fin 3) : EReal :=
  Ideal.div (span R t f q h w c) (Ideal.sqrt (∑ k : Fin 3, span R t f q h w k * span R t f q h w k))

end Cert.Rays
end
-- ==== Proof.Lits.lean ====
module

public import Idealize.ShloMosaic.PureOps.Ideal

/-! # The literals of both programs, as reals -/

@[expose] public section
noncomputable section
namespace Cert.Rays
open Idealize.ShloMosaic

theorem lit_zero : Ideal.ofBits .f32 0x00000000#32 = 0 := by
  simp [Ideal.ofBits, Ideal.ieee]

theorem lit_half : Ideal.ofBits .f32 0x3F000000#32 = ((1 / 2 : ℝ) : EReal) := by
  simp [Ideal.ofBits, Ideal.ieee, -EReal.coe_mul]; norm_num

theorem lit_one : Ideal.ofBits .f32 0x3F800000#32 = 1 := by
  simp [Ideal.ofBits, Ideal.ieee, -EReal.coe_mul]; norm_num

theorem lit_three_halves : Ideal.ofBits .f32 0x3FC00000#32 = ((3 / 2 : ℝ) : EReal) := by
  simp [Ideal.ofBits, Ideal.ieee, -EReal.coe_mul]; norm_num

theorem lit_neg_one : Ideal.ofBits .f32 0xBF800000#32 = ((-1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_223 : Ideal.ofBits .f32 0x435F0000#32 = ((223 : ℝ) : EReal) := by
  simp [Ideal.ofBits, Ideal.ieee, -EReal.coe_mul]; norm_num

theorem lit_63 : Ideal.ofBits .f32 0x427C0000#32 = ((63 : ℝ) : EReal) := by
  simp [Ideal.ofBits, Ideal.ieee, -EReal.coe_mul]; norm_num

/-- A small line number read as a signed word. -/
theorem toInt_small (n : ℕ) (h : n < 1024) :
    FloatOps.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_of_lt] <;> simp [BitVec.toNat_ofNat] <;> omega
  rw [this]; simp

end Cert.Rays
end
-- ==== Proof.Block.lean ====
module

public import proofs.«01_k».proof.Proof.Gen.KernelIdeal.Frame
public import proofs.«01_k».proof.Proof.Camera
public import proofs.«01_k».proof.Proof.Lits
public import Idealize.ShloMosaic.Lib.Pipeline.ValueKit
public import Idealize.ShloMosaic.Lib.Pointwise
public import Idealize.ShloMosaic.PureOps.Ideal

/-! # What one grid point computes

The kernel's stored vectors read at an index, over any camera numbers and any depth block. -/

@[expose] public section
noncomputable section
namespace Cert.Rays
open Idealize.ShloMosaic Idealize.ShloMosaic.TcCoe Idealize.SL Idealize.SL.Sem
open Cert.KernelIdeal Cert.KernelIdeal.Gen

theorem named_grid : Named.named (F := Ideal) (φ := .f32) Cert.KernelIdeal.κ "grid_step" 0x3C12F114#32 = ((2 / 223 : ℝ) : EReal) :=
  IdealRules.named_const.ideal_named_scalar _ _ _ _ rfl

theorem named_depth : Named.named (F := Ideal) (φ := .f32) Cert.KernelIdeal.κ "depth_step" 0x3C820821#32 = ((1 / 63 : ℝ) : EReal) :=
  IdealRules.named_const.ideal_named_scalar _ _ _ _ rfl

/-- The sample factors: constant along a row of pixels. -/
theorem pay4_at (k : Fin 64) (w : Fin 224) :
    k0_pay4 (F := Ideal) (ix2 k w) = ((k.val : ℝ) : EReal) * ((1 / 63 : ℝ) : EReal) + ((1 / 2 : ℝ) : EReal) := by
  pointwise [k0_pay4]
  rw [named_depth, lit_half, toInt_small k.val (by omega)]

/-- The value block: pixel row `y 1`, sample `y 2`, pixel column `y 3`. -/
def sampleBlock (v17 : FVec Ideal S112x224 .f32) (y : S1x112x64x224.Idx) : EReal :=
  k0_pay4 (F := Ideal) (ix2 (y 2) (y 3)) * v17 (ix2 (y 1) (y 3))

/-- One stored row of samples, whichever pixel row it is. -/
theorem sample_row (k : ℕ) (hk : k < 112) (v17 : FVec Ideal S112x224 .f32)
    (inb : ∀ a, (![0, k, 0, 0] : Fin 4 → ℕ) a + S1x1x64x224.size a ≤ S1x112x64x224.size a)
    (hs : S112x224.Slices ![k, 0] S1x224)
    (x : (Rect.unit (s := S1x112x64x224) ![0, k, 0, 0] S1x1x64x224.size inb).shape.Idx) :
    shapeCast S1x1x64x224 (mulf (k0_pay4 (F := Ideal)) (broadcastTo S64x224 (extractStridedSlice S1x224 ![k, 0] v17 hs)
      broadcasts_S1x224_S64x224)) shapeCasts_S64x224_S1x1x64x224 x
      = sampleBlock v17 ((Rect.unit (s := S1x112x64x224) ![0, k, 0, 0] S1x1x64x224.size inb).emb x) := by
  revert x
  show ∀ x : S1x1x64x224.Idx, _
  intro x
  idx_vars x
  pointwise [sampleBlock]
  have e : ∀ a : Fin 4, ((Rect.unit (s := S1x112x64x224) ![0, k, 0, 0] S1x1x64x224.size inb).emb (ix4 x0 x1 x2 x3) a).val
      = (![0, k, 0, 0] : Fin 4 → ℕ) a + (ix4 x0 x1 x2 x3 a).val := fun a => Rect.idx_unit_val (s := S1x112x64x224) _ _ inb _ a
  have e1 := e 1; have e2 := e 2; have e3 := e 3
  simp at e1 e2 e3
  congr 2
  · congr 1 <;> exact Fin.ext (by simpa using (by assumption : _ = _).symm)
  · congr 1 <;> apply Fin.ext <;> simp [e1, e3]

set_option maxHeartbeats 4000000 in
/-- The sample block a grid point leaves, at row `r`, sample `k`, column `w`. -/
theorem samples_at (m : (ℓ : Loc nD τ sig) → Buf (Elt Ideal) ℓ) (c : Dev nD) (t : Fin cfg0.N)
    (z : Fin 1) (r : Fin 112) (k : Fin 64) (w : Fin 224) :
    (outsAt0 m c t).1 (ix4 z r k w) = sample k.val (iblk m c 1 t (ix3 0 r w)) := by
  have key : (outsAt0 m c t).1 (ix4 z r k w) = sampleBlock (k0_pay3 (iblk m c 1 t)) (ix4 z r k w) := by
    unfold outsAt0
    frame_out
    refine View.canon_apply_of_pieces (Val := Elt Ideal) (e := .f32) (sampleBlock (k0_pay3 (iblk m c 1 t))) _ ?_ _ ?_
    · simp only [List.forall_mem_cons]
      repeat first
        | refine ⟨fun x => sample_row _ (by decide) _ _ _ x, ?_⟩
        | refine ⟨fun x => (by unfold_payloads; exact sample_row _ (by decide) _ _ _ x), ?_⟩
      simp
    · apply View.cover_of_tiledL (s := S1x112x64x224) _ S1x1x64x224.size
      sl_kernel_rfl
  rw [key, sampleBlock]
  pointwise [sample, k0_pay3]
  rw [pay4_at]

end Cert.Rays
end
-- ==== Proof.Planes.lean ====
module

public import proofs.«01_k».proof.Proof.Block

/-! # The direction and origin planes one grid point computes -/

@[expose] public section
noncomputable section
namespace Cert.Rays
open Idealize.ShloMosaic Idealize.ShloMosaic.TcCoe Idealize.SL Idealize.SL.Sem
open Cert.KernelIdeal Cert.KernelIdeal.Gen

/-- The first pixel row of half `q`, as a word. -/
abbrev firstRow (q : ℕ) : BitVec 32 := Scalar.muli (BitVec.ofNat 32 q) 112#32

theorem row_number (q : ℕ) (hq : q < 2) (r : Fin 112) :
    FloatOps.sitofp (F := Ideal) .f32 (firstRow q) + FloatOps.sitofp (F := Ideal) .f32 (BitVec.ofNat 32 r.val)
      = (((112 * q + r.val : ℕ) : ℝ) : EReal) := by
  have e : firstRow q = BitVec.ofNat 32 (112 * q) := by interval_cases q <;> rfl
  rw [e, toInt_small _ (by omega), toInt_small _ (by omega), ← EReal.coe_add]
  push_cast; rfl

/-- A ray component over the half image. -/
theorem pay136_at (p : Fin 16 → EReal) (a b e : EReal) (q : ℕ) (hq : q < 2) (r : Fin 112) (w : Fin 224) :
    k0_pay136 (F := Ideal) (p 0) (p 1) (p 2) (p 3) a b e (firstRow q) k0_pay133 (ix2 r w)
      = ray p (112 * q + r.val) w.val a b e := by
  pointwise [k0_pay136, k0_pay134, k0_pay135, k0_pay133]
  have h := row_number q hq r
  rw [named_grid, toInt_small w.val (by omega)]
  rw [show ((((firstRow q).toInt : ℝ)) : EReal) = FloatOps.sitofp (F := Ideal) .f32 (firstRow q) from rfl, h]
  rfl

theorem pay137_at (p : Fin 16 → EReal) (a b e : EReal) (q : ℕ) (hq : q < 2) (r : Fin 112) (w : Fin 224) :
    k0_pay137 (F := Ideal) (p 0) (p 1) (p 2) (p 3) a b e (firstRow q) k0_pay133 (ix2 r w)
      = ray p (112 * q + r.val) w.val a b e := pay136_at p a b e q hq r w

theorem pay138_at (p : Fin 16 → EReal) (a b e : EReal) (q : ℕ) (hq : q < 2) (r : Fin 112) (w : Fin 224) :
    k0_pay138 (F := Ideal) (p 0) (p 1) (p 2) (p 3) a b e (firstRow q) k0_pay133 (ix2 r w)
      = ray p (112 * q + r.val) w.val a b e := pay136_at p a b e q hq r w

/-- The sixteen camera numbers of a parameter block. -/
def cam (X : S1x1x16.Idx → EReal) : Fin 16 → EReal := fun k => X (ix3 0 0 k)

/-- The same numbers, as sixteen one-word loads. -/
def scal (X : Vec Ideal S1x1x16 .f32) : Fin 16 → EReal := fun k =>
  View.ld (Val := Elt Ideal) (e' := .f32) X (Rect.unit (s := S1x1x16) ![0, 0, k.val] ![1, 1, 1]
    (by intro a; have := k.isLt; fin_cases a <;> simp <;> omega)) (Shape.Idx.first (s := S1x1x1) (by decide))

theorem scal_eq (X : Vec Ideal S1x1x16 .f32) : scal X = cam X := by
  funext k
  refine View.ld_unit_apply_of (Val := Elt Ideal) (e := .f32) X _ _ _ _ (ix3 0 0 k) fun a => ?_
  fin_cases a <;> rfl

/-- The direction block. -/
def dirBlock (p : Fin 16 → EReal) (q : ℕ) (y : S1x3x112x224.Idx) : EReal :=
  unitDir p (y 1) (112 * q + (y 2).val) (y 3).val

/-- The origin block. -/
def orgBlock (p : Fin 16 → EReal) (y : S1x3x112x224.Idx) : EReal := centre p (y 1)

/-- The coordinates of plane `d`'s rectangle. -/
theorem plane_coords (d : ℕ) (inb : ∀ a, (![0, d, 0, 0] : Fin 4 → ℕ) a + S1x1x112x224.size a ≤ S1x3x112x224.size a)
    (z z' : Fin 1) (r : Fin 112) (w : Fin 224) (y : S1x3x112x224.Idx)
    (hy : y = (Rect.unit (s := S1x3x112x224) ![0, d, 0, 0] S1x1x112x224.size inb).emb (ix4 z z' r w)) :
    y 1 = ⟨d, inb 1⟩ ∧ y 2 = r ∧ y 3 = w := by
  subst hy
  have e : ∀ a : Fin 4, ((Rect.unit (s := S1x3x112x224) ![0, d, 0, 0] S1x1x112x224.size inb).emb (ix4 z z' r w) a).val
      = (![0, d, 0, 0] : Fin 4 → ℕ) a + (ix4 z z' r w a).val := fun a => Rect.idx_unit_val (s := S1x3x112x224) _ _ inb _ a
  exact ⟨Fin.ext ((e 1).trans (by have := z'.isLt; show d + z'.val = d; omega)), Fin.ext ((e 2).trans (Nat.zero_add _)), Fin.ext ((e 3).trans (Nat.zero_add _))⟩

theorem dirBlock_at (p : Fin 16 → EReal) (q : ℕ) (y : S1x3x112x224.Idx) (d : Fin 3) (r : Fin 112) (w : Fin 224)
    (h : y 1 = d ∧ y 2 = r ∧ y 3 = w) : dirBlock p q y = unitDir p d (112 * q + r.val) w.val := by
  obtain ⟨h1, h2, h3⟩ := h
  subst h1 h2 h3
  rfl

theorem orgBlock_at (p : Fin 16 → EReal) (y : S1x3x112x224.Idx) (d : Fin 3) (r : Fin 112) (w : Fin 224)
    (h : y 1 = d ∧ y 2 = r ∧ y 3 = w) : orgBlock p y = centre p d := by
  obtain ⟨h1, h2, h3⟩ := h
  subst h1
  rfl

/-- The squared length over the half image. -/
theorem pay139_at (p : Fin 16 → EReal) (q : ℕ) (hq : q < 2) (r : Fin 112) (w : Fin 224) :
    k0_pay139 (F := Ideal) (p 0) (p 1) (p 2) (p 3) (p 4) (p 5) (p 6) (p 7) (p 8) (p 9) (p 10) (p 11) (p 12) (firstRow q)
      k0_pay133 (ix2 r w) = sumSq p (112 * q + r.val) w.val := by
  pointwise [k0_pay139]
  rw [pay136_at p _ _ _ q hq, pay137_at p _ _ _ q hq, pay138_at p _ _ _ q hq]
  rfl

/-- The inverse length over the half image. -/
theorem inv_at (p : Fin 16 → EReal) (q : ℕ) (hq : q < 2) (r : Fin 112) (w : Fin 224) :
    k0_pay142
      (k0_pay140 (F := Ideal) (p 0) (p 1) (p 2) (p 3) (p 4) (p 5) (p 6) (p 7) (p 8) (p 9) (p 10) (p 11) (p 12) (firstRow q)
        k0_pay133)
      (k0_pay141 (F := Ideal) (p 0) (p 1) (p 2) (p 3) (p 4) (p 5) (p 6) (p 7) (p 8) (p 9) (p 10) (p 11) (p 12) (firstRow q)
        k0_pay133) (ix2 r w) = invLen (sumSq p (112 * q + r.val) w.val) := by
  pointwise [k0_pay142, k0_pay140, k0_pay141]
  rw [pay139_at p q hq, lit_half, lit_three_halves]
  rfl

/-- One stored plane of directions. -/
theorem dir_plane (p : Fin 16 → EReal) (q : ℕ) (d : Fin 3) (V I : FVec Ideal S112x224 .f32)
    (hV : ∀ (r : Fin 112) (w : Fin 224), V (ix2 r w) = comp p d (112 * q + r.val) w.val)
    (hI : ∀ (r : Fin 112) (w : Fin 224), I (ix2 r w) = invLen (sumSq p (112 * q + r.val) w.val))
    (inb : ∀ a, (![0, d.val, 0, 0] : Fin 4 → ℕ) a + S1x1x112x224.size a ≤ S1x3x112x224.size a)
    (x : (Rect.unit (s := S1x3x112x224) ![0, d.val, 0, 0] S1x1x112x224.size inb).shape.Idx) :
    shapeCast S1x1x112x224 (mulf V I) shapeCasts_S112x224_S1x1x112x224 x
      = dirBlock p q ((Rect.unit (s := S1x3x112x224) ![0, d.val, 0, 0] S1x1x112x224.size inb).emb x) := by
  revert x
  show ∀ x : S1x1x112x224.Idx, _
  intro x
  idx_vars x
  rw [dirBlock_at p q _ d x2 x3 (plane_coords d.val inb x0 x1 x2 x3 _ rfl)]
  pointwise []
  rw [hV, hI]
  rfl

/-- One stored plane of origins. -/
theorem org_plane (p : Fin 16 → EReal) (d : Fin 3) (V : FVec Ideal S112x224 .f32)
    (hV : ∀ (r : Fin 112) (w : Fin 224), V (ix2 r w) = centre p d)
    (inb : ∀ a, (![0, d.val, 0, 0] : Fin 4 → ℕ) a + S1x1x112x224.size a ≤ S1x3x112x224.size a)
    (x : (Rect.unit (s := S1x3x112x224) ![0, d.val, 0, 0] S1x1x112x224.size inb).shape.Idx) :
    shapeCast S1x1x112x224 V shapeCasts_S112x224_S1x1x112x224 x
      = orgBlock p ((Rect.unit (s := S1x3x112x224) ![0, d.val, 0, 0] S1x1x112x224.size inb).emb x) := by
  revert x
  show ∀ x : S1x1x112x224.Idx, _
  intro x
  idx_vars x
  rw [orgBlock_at p _ d x2 x3 (plane_coords d.val inb x0 x1 x2 x3 _ rfl)]
  pointwise []
  rw [hV]

/-- The word of a splat origin plane. -/
theorem pay147_at (p : Fin 16 → EReal) (a b e : EReal) (r : Fin 112) (w : Fin 224) :
    k0_pay147 (F := Ideal) a b e (p 13) (p 14) (p 15) (ix2 r w) = 0 - (p 13 * a + p 14 * b + p 15 * e) := by
  pointwise [k0_pay147]

/-- The direction block a grid point leaves, at plane `d`, row `r`, column `w`. -/
theorem dirs_at (m : (ℓ : Loc nD τ sig) → Buf (Elt Ideal) ℓ) (c : Dev nD) (t : Fin cfg0.N)
    (z : Fin 1) (d : Fin 3) (r : Fin 112) (w : Fin 224) :
    (outsAt0 m c t).2.1 (ix4 z d r w)
      = unitDir (cam (iblk m c 0 t)) d (112 * (grid0.coords t 0).val + r.val) w.val := by
  have hq : (grid0.coords t 0).val < 2 := (grid0.coords t 0).isLt
  have key : (outsAt0 m c t).2.1 (ix4 z d r w) = dirBlock (cam (iblk m c 0 t)) (grid0.coords t 0).val (ix4 z d r w) := by
    unfold outsAt0
    frame_out
    rw [← scal_eq]
    refine View.canon_apply_of_pieces (Val := Elt Ideal) (e := .f32) (dirBlock (scal (iblk m c 0 t)) (grid0.coords t 0).val) _ ?_ _ ?_
    · simp only [List.forall_mem_cons]
      exact ⟨dir_plane (scal (iblk m c 0 t)) _ 2 _ _ (pay138_at (scal (iblk m c 0 t)) _ _ _ _ hq) (inv_at (scal (iblk m c 0 t)) _ hq) _,
        dir_plane (scal (iblk m c 0 t)) _ 1 _ _ (pay137_at (scal (iblk m c 0 t)) _ _ _ _ hq) (inv_at (scal (iblk m c 0 t)) _ hq) _,
        dir_plane (scal (iblk m c 0 t)) _ 0 _ _ (pay136_at (scal (iblk m c 0 t)) _ _ _ _ hq) (inv_at (scal (iblk m c 0 t)) _ hq) _, by simp⟩
    · apply View.cover_of_tiledL (s := S1x3x112x224) _ S1x1x112x224.size
      sl_kernel_rfl
  exact key

/-- The origin block a grid point leaves, at plane `d`: one number. -/
theorem orgs_at (m : (ℓ : Loc nD τ sig) → Buf (Elt Ideal) ℓ) (c : Dev nD) (t : Fin cfg0.N)
    (z : Fin 1) (d : Fin 3) (r : Fin 112) (w : Fin 224) :
    (outsAt0 m c t).2.2 (ix4 z d r w) = centre (cam (iblk m c 0 t)) d := by
  have key : (outsAt0 m c t).2.2 (ix4 z d r w) = orgBlock (cam (iblk m c 0 t)) (ix4 z d r w) := by
    unfold outsAt0
    frame_out
    rw [← scal_eq]
    refine View.canon_apply_of_pieces (Val := Elt Ideal) (e := .f32) (orgBlock (scal (iblk m c 0 t))) _ ?_ _ ?_
    · simp only [List.forall_mem_cons]
      exact ⟨org_plane (scal (iblk m c 0 t)) 2 _ (pay147_at (scal (iblk m c 0 t)) _ _ _) _, org_plane (scal (iblk m c 0 t)) 1 _ (pay147_at (scal (iblk m c 0 t)) _ _ _) _,
        org_plane (scal (iblk m c 0 t)) 0 _ (pay147_at (scal (iblk m c 0 t)) _ _ _) _, by simp⟩
    · apply View.cover_of_tiledL (s := S1x3x112x224) _ S1x1x112x224.size
      sl_kernel_rfl
  exact key

end Cert.Rays
end
-- ==== Proof.Arrays.lean ====
module

public import proofs.«01_k».proof.Proof.Planes

/-! # What the three result arrays hold after the launch -/

@[expose] public section
noncomputable section
namespace Cert.Rays
open Idealize.ShloMosaic Idealize.ShloMosaic.TcCoe Idealize.SL Idealize.SL.Sem
open Cert.KernelIdeal Cert.KernelIdeal.Gen

variable (m : (ℓ : Loc nD τ sig) → Buf (Elt Ideal) ℓ)

theorem at0 : ∀ t : Fin cfg0.N, win0_0.index t = ![(grid0.coords t 1).val, 0, 0] :=
  (by decide +kernel : ∀ t : Fin grid0.N, _)
theorem at1 : ∀ t : Fin cfg0.N, win0_1.index t = ![(grid0.coords t 1).val, (grid0.coords t 0).val, 0] :=
  (by decide +kernel : ∀ t : Fin grid0.N, _)
theorem at2 : ∀ t : Fin cfg0.N, win0_2.index t = ![(grid0.coords t 1).val, (grid0.coords t 0).val, 0, 0] :=
  (by decide +kernel : ∀ t : Fin grid0.N, _)
theorem at3 : ∀ t : Fin cfg0.N, win0_3.index t = ![(grid0.coords t 1).val, 0, (grid0.coords t 0).val, 0] :=
  (by decide +kernel : ∀ t : Fin grid0.N, _)
theorem at4 : ∀ t : Fin cfg0.N, win0_4.index t = ![(grid0.coords t 1).val, 0, (grid0.coords t 0).val, 0] :=
  (by decide +kernel : ∀ t : Fin grid0.N, _)

/-- The camera of batch `b`, as the launch finds it. -/
def camIn (c : Dev nD) (b : Fin 4) : Fin 16 → EReal := fun k => V m c main_v2 (ix3 b 0 k)

theorem cam_block (c : Dev nD) (t : Fin cfg0.N) (b : Fin 4) (hb : b.val = (grid0.coords t 1).val) :
    cam (iblk m c 0 t) = camIn m c b := by
  funext k
  unfold cam camIn
  blk_ext [iblk, at0 t]

theorem samples_block (c : Dev nD) (t : Fin cfg0.N) (y : S1x112x64x224.Idx) :
    (outsAt0 m c t).1 y = sample (y 2).val (iblk m c 1 t (ix3 (0 : Fin 1) (y 1 : Fin 112) (y 3 : Fin 224))) := by
  idx_vars y
  exact samples_at m c t y0 y1 y2 y3

theorem dirs_block (c : Dev nD) (t : Fin cfg0.N) (y : S1x3x112x224.Idx) :
    (outsAt0 m c t).2.1 y
      = unitDir (cam (iblk m c 0 t)) (y 1) (112 * (grid0.coords t 0).val + (y 2).val) (y 3).val := by
  idx_vars y
  exact dirs_at m c t y0 y1 y2 y3

theorem orgs_block (c : Dev nD) (t : Fin cfg0.N) (y : S1x3x112x224.Idx) :
    (outsAt0 m c t).2.2 y = centre (cam (iblk m c 0 t)) (y 1) := by
  idx_vars y
  exact orgs_at m c t y0 y1 y2 y3

/-- The samples' array. -/
theorem samples_array (c : Dev nD) : (dats m 0 c).arrAt 2 (cfgs 0).N
    = fun j : S4x224x64x224.Idx => sample (j 2).val (m ((c : Thread nD τ).loc main_arg0) (ix3 (j 0) (j 1) (j 3))) := by
  refine (dats m 0 c).arrAt_eq_of_covers 2 _ (by decide +kernel) fun t hf y => ?_
  blk_simp
  rw [after0_2]
  refine (samples_block m c t y).trans ?_
  have e2 : win0_2.index t 2 = 0 := by rw [at2 t]; rfl
  rw [e2]
  congr 1
  · rw [Nat.zero_mul, Nat.zero_add]
  · rw [← V_main_arg0 m c]
    blk_ext [iblk, at1 t, at2 t]

/-- The directions' array, its planes leading. -/
theorem dirs_array (c : Dev nD) : (dats m 0 c).arrAt 3 (cfgs 0).N
    = fun j : S4x3x224x224.Idx => unitDir (camIn m c (j 0)) (j 1) (j 2).val (j 3).val := by
  refine (dats m 0 c).arrAt_eq_of_covers 3 _ (by decide +kernel) fun t hf y => ?_
  have hb : ((win0_3.blk t).view.emb y 0).val = (grid0.coords t 1).val := by
    blk_simp [at3 t]
  have hd : ((win0_3.blk t).view.emb y 1).val = (y 1).val := by blk_simp [at3 t]
  blk_simp
  rw [after0_3]
  refine (dirs_block m c t y).trans ?_
  rw [cam_block m c t _ hb]
  have e2 : win0_3.index t 2 = (grid0.coords t 0).val := by rw [at3 t]; rfl
  have e3 : win0_3.index t 3 = 0 := by rw [at3 t]; rfl
  rw [e2, e3, Nat.zero_mul, Nat.zero_add, Nat.mul_comm 112]
  congr 1
  exact Fin.ext hd.symm

/-- The origins' array, its planes leading. -/
theorem orgs_array (c : Dev nD) : (dats m 0 c).arrAt 4 (cfgs 0).N
    = fun j : S4x3x224x224.Idx => centre (camIn m c (j 0)) (j 1) := by
  refine (dats m 0 c).arrAt_eq_of_covers 4 _ (by decide +kernel) fun t hf y => ?_
  have hb : ((win0_4.blk t).view.emb y 0).val = (grid0.coords t 1).val := by
    blk_simp [at4 t]
  have hd : ((win0_4.blk t).view.emb y 1).val = (y 1).val := by blk_simp [at4 t]
  blk_simp
  rw [after0_4]
  refine (orgs_block m c t y).trans ?_
  rw [cam_block m c t _ hb]
  congr 1
  exact Fin.ext hd.symm

end Cert.Rays
end
-- ==== Proof.Host.lean ====
module

public import proofs.«01_k».proof.Proof.Arrays

/-! # The camera in terms of the arguments, and the kernel's four results -/

@[expose] public section
noncomputable section
namespace Cert.Rays
open Idealize.ShloMosaic Idealize.ShloMosaic.TcCoe Idealize.SL Idealize.SL.Sem
open Cert.KernelIdeal Cert.KernelIdeal.Gen

variable (m : (ℓ : Loc nD τ sig) → Buf (Elt Ideal) ℓ)

/-- The launch finds every camera as the arguments give it. -/
theorem camIn_eq (c : Dev nD) (b : Fin 4) :
    camIn m c b = packed (fun i j => m ((c : Thread nD τ).loc main_arg1) (ix3 b i j))
      (fun j => m ((c : Thread nD τ).loc main_arg2) (ix2 b j)) (fun j => m ((c : Thread nD τ).loc main_arg3) (ix2 b j))
      (fun j => m ((c : Thread nD τ).loc main_arg4) (ix2 b j)) := by
  funext k
  have hv : V m c main_v2 = shapeCast S4x1x16 (concatenate S4x16 1 [⟨S4x2, (m ((c : Thread nD τ).loc main_arg3) : S4x2.Idx → EReal)⟩,
      ⟨S4x2, (m ((c : Thread nD τ).loc main_arg4) : S4x2.Idx → EReal)⟩,
      ⟨S4x9, shapeCast S4x9 (m ((c : Thread nD τ).loc main_arg1) : S4x3x3.Idx → EReal) shapeCasts_S4x3x3_S4x9⟩,
      ⟨S4x3, (m ((c : Thread nD τ).loc main_arg2) : S4x3.Idx → EReal)⟩] concatenates_S4x2_S4x2_S4x9_S4x3_S4x16_d1) shapeCasts_S4x16_S4x1x16 := by
    show StableHlo.after hostOps0 (fun b => m (c, b)) (Proc.devRef .tc main_v2) = _
    unfold hostOps0
    after_results
    rfl
  unfold camIn
  rw [hv]
  pointwise
  fin_cases k <;> rfl

/-- The arrays at the end of the launch, over what it found. -/
abbrev launched (c : Dev nD) : Valuation τ sig (Elt Ideal) :=
  Pipeline.withArrays spec0 c (V0 m c) fun w => (dats m 0 c).arrAt w (cfgs 0).N

/-- Whatever buffer the launch does not own ends at what the host lines after it leave. -/
theorem end_eq {r : PUnit × MemSt nD τ sig (Elt Ideal)}
    (h : Pipeline.FramePost cfgs (dats m) 0 (Pipeline.afterTail₀ cfgs (dats m) 0 (V0 m) [hostOps1]) r)
    (c : Dev nD) (b : Ref sig .tc) (hb : b ∈ Pipeline.restRefs sig spec0) :
    r.2.mem ((c : Thread nD τ).loc b) = StableHlo.after hostOps1 (launched m c) (Proc.devRef .tc b) := (h c).2 b hb

theorem origins_left (c : Dev nD) : StableHlo.after hostOps1 (launched m c) (Proc.devRef .tc main_v4)
    = fun j : S4x224x224x3.Idx => centre (camIn m c (j 0)) (j 3) := by
  unfold hostOps1
  after_results
  have e : launched m c (Proc.devRef .tc main_v3_2) = _ :=
    (Pipeline.withArrays_arr spec0 winFacts0.arr_inj c (V0 m c) _ 4).trans (orgs_array m c)
  rw [e]
  funext j
  idx_vars j
  pointwise

theorem dirs_left (c : Dev nD) : StableHlo.after hostOps1 (launched m c) (Proc.devRef .tc main_v5)
    = fun j : S4x224x224x3.Idx => unitDir (camIn m c (j 0)) (j 3) (j 1).val (j 2).val := by
  unfold hostOps1
  after_results
  have e : launched m c (Proc.devRef .tc main_v3_1) = _ :=
    (Pipeline.withArrays_arr spec0 winFacts0.arr_inj c (V0 m c) _ 3).trans (dirs_array m c)
  rw [e]
  funext j
  idx_vars j
  pointwise

theorem samples_left (c : Dev nD) : StableHlo.after hostOps1 (launched m c) (Proc.devRef .tc main_v6)
    = fun j : S4x224x224x64.Idx => sample (j 3).val (m ((c : Thread nD τ).loc main_arg0) (ix3 (j 0) (j 1) (j 2))) := by
  unfold hostOps1
  after_results
  have e : launched m c (Proc.devRef .tc main_v3_0) = _ :=
    (Pipeline.withArrays_arr spec0 winFacts0.arr_inj c (V0 m c) _ 2).trans (samples_array m c)
  rw [e]
  funext j
  idx_vars j
  pointwise

theorem grid_left (c : Dev nD) : StableHlo.after hostOps1 (launched m c) (Proc.devRef .tc main_v8)
    = fun j : S4x224x224x2.Idx => m ((c : Thread nD τ).loc main_arg5) (ix3 (j 1) (j 2) (j 3)) := by
  unfold hostOps1
  after_results
  have e : launched m c (Proc.devRef .tc main_arg5) = m ((c : Thread nD τ).loc main_arg5) :=
    (Pipeline.withArrays_of_ne spec0 c (V0 m c) _ main_arg5 (by decide)).trans (V_main_arg5 m c)
  rw [e]
  funext j
  idx_vars j
  pointwise

/-- The kernel's run: its four results, in terms of the arguments. -/
theorem kernel_run (g : Dev nD → PrngReg) :
    θ_run defs (onTc (τ := τ) main) ⟨m, fun _ => 0, g⟩ (fun r => ∀ c : Dev nD,
      r.2.mem ((c : Thread nD τ).loc main_v4) = (fun j : S4x224x224x3.Idx => centre (camIn m c (j 0)) (j 3))
      ∧ r.2.mem ((c : Thread nD τ).loc main_v5)
        = (fun j : S4x224x224x3.Idx => unitDir (camIn m c (j 0)) (j 3) (j 1).val (j 2).val)
      ∧ r.2.mem ((c : Thread nD τ).loc main_v6)
        = (fun j : S4x224x224x64.Idx => sample (j 3).val (m ((c : Thread nD τ).loc main_arg0) (ix3 (j 0) (j 1) (j 2))))
      ∧ r.2.mem ((c : Thread nD τ).loc main_v8)
        = (fun j : S4x224x224x2.Idx => m ((c : Thread nD τ).loc main_arg5) (ix3 (j 1) (j 2) (j 3)))) :=
  θ_run_mono (run_main m g) fun _ h c =>
    ⟨(end_eq m h c main_v4 (by decide)).trans (origins_left m c), (end_eq m h c main_v5 (by decide)).trans (dirs_left m c),
      (end_eq m h c main_v6 (by decide)).trans (samples_left m c), (end_eq m h c main_v8 (by decide)).trans (grid_left m c)⟩

end Cert.Rays
end
-- ==== Proof.RefGrid.lean ====
module

public import proofs.«01_k».proof.Proof.Gen.ReferenceIdeal.Read
public import proofs.«01_k».proof.Proof.Camera
public import proofs.«01_k».proof.Proof.Lits
public import Idealize.ShloMosaic.Lib.Pointwise

/-! # The reference's evenly spaced lines, and its grid of points -/

@[expose] public section
noncomputable section
namespace Cert.Rays
open Idealize.ShloMosaic Idealize.ShloMosaic.TcCoe
open Cert.ReferenceIdeal Cert.ReferenceIdeal.Gen Cert.ReferenceIdeal.Read

/-- A point of an evenly spaced line, among reals. -/
theorem linear (a b n N : ℝ) (hN : N ≠ 0) :
    (a : EReal) * (1 - Ideal.div (n : EReal) (N : EReal)) + (b : EReal) * Ideal.div (n : EReal) (N : EReal)
      = ((a * (1 - n / N) + b * (n / N) : ℝ) : EReal) := by
  rw [Ideal.div_coe hN, ← EReal.coe_one]
  norm_cast
  rw [mul_one_div]

/-- The line from -1 to 1, its last point apart, is the ticks. -/
theorem ticks (n : Fin 224) :
    (if n.val < 223 then ((-1 : ℝ) : EReal) * (1 - Ideal.div ((n.val : ℝ) : EReal) ((223 : ℝ) : EReal))
        + ((1 : ℝ) : EReal) * Ideal.div ((n.val : ℝ) : EReal) ((223 : ℝ) : EReal) else ((1 : ℝ) : EReal)) = tick n.val := by
  rw [tick_real]
  split
  · rw [linear _ _ _ _ (by norm_num)]
    congr 1; ring
  · have : n.val = 223 := by omega
    rw [this]
    congr 1; norm_num

theorem one_coe : Ideal.ofBits .f32 0x3F800000#32 = ((1 : ℝ) : EReal) := by rw [lit_one]; rfl

/-- The rows' line. -/
theorem line0 (n : Fin 224) : val_main_v0 (F := Ideal) (ix1 n) = tick n.val := by
  pointwise [val_main_v0, val_main_call0_v15, val_main_call0_v14, val_main_call0_v13, val_main_call0_v12, val_main_call0_v11,
    val_main_call0_v10, val_main_call0_v9, val_main_call0_v8, val_main_call0_v7, val_main_call0_v6, val_main_call0_v5,
    val_main_call0_v4, val_main_call0_v16, val_main_call0_v1, val_main_call0_v0, val_main_cst, val_main_cst_0,
    val_main_call0_cst_0, val_main_call0_cst_1]
  rw [lit_223, toInt_small n.val (by omega)]
  refine Eq.trans ?_ (ticks n)
  rw [← lit_neg_one, ← one_coe]
  rfl

/-- The columns' line. -/
theorem line1 (n : Fin 224) : val_main_v1 (F := Ideal) (ix1 n) = tick n.val := by
  refine Eq.trans ?_ (line0 n)
  rfl

/-- The samples' line, from a half to three halves. -/
theorem line2 (k : Fin 64) : val_main_v8 (F := Ideal) (ix1 k)
    = ((k.val : ℝ) : EReal) * ((1 / 63 : ℝ) : EReal) + ((1 / 2 : ℝ) : EReal) := by
  pointwise [val_main_v8, val_main_call2_v15, val_main_call2_v14, val_main_call2_v13, val_main_call2_v12, val_main_call2_v11,
    val_main_call2_v10, val_main_call2_v9, val_main_call2_v8, val_main_call2_v7, val_main_call2_v6, val_main_call2_v5,
    val_main_call2_v4, val_main_call2_v16, val_main_call2_v1, val_main_call2_v0, val_main_cst_3, val_main_cst_4,
    val_main_call2_cst_0, val_main_call2_cst_1]
  rw [lit_63, toInt_small k.val (by omega)]
  trans (if k.val < 63 then ((1 / 2 : ℝ) : EReal) * (1 - Ideal.div ((k.val : ℝ) : EReal) ((63 : ℝ) : EReal))
        + ((3 / 2 : ℝ) : EReal) * Ideal.div ((k.val : ℝ) : EReal) ((63 : ℝ) : EReal) else ((3 / 2 : ℝ) : EReal))
  · rw [← lit_half, ← lit_three_halves]
    rfl
  rw [← EReal.coe_mul, ← EReal.coe_add]
  split
  · rw [linear _ _ _ _ (by norm_num)]
    congr 1; ring
  · have : k.val = 63 := by omega
    rw [this]
    congr 1; norm_num

/-- The reference's samples. -/
theorem ref_samples (z : S4x224x224.Idx → EReal) (b : Fin 4) (h w : Fin 224) (k : Fin 64) :
    val_main_v46 (F := Ideal) z (ix4 b h w k) = sample k.val (z (ix3 b h w)) := by
  pointwise [val_main_v46, val_main_v12, val_main_v11, val_main_v10, val_main_v9, val_main_v7]
  rw [line2, mul_comm]
  rfl

/-- The reference's grid result. -/
theorem ref_grid (x : S224x224x2.Idx → EReal) (b : Fin 4) (h w : Fin 224) (k : Fin 2) :
    val_main_v48 (F := Ideal) x (ix4 b h w k) = x (ix3 h w k) := by
  pointwise [val_main_v48, val_main_v47]

/-- The pixel's own number among all, row by row. -/
def flat (h w : Fin 224) : Fin 50176 := ⟨h.val * 224 + w.val, by omega⟩

/-- The reference's own grid: column, then row. -/
theorem grid_at (h w : Fin 224) (k : Fin 2) :
    val_main_v6 (F := Ideal) (ix3 h w k) = if k.val < 1 then tick w.val else tick h.val := by
  pointwise [val_main_v6, val_main_v5, val_main_v4, val_main_v3, val_main_v2]
  rw [line0, line1]
  rfl

/-- A pixel's point in the plane of depth one or two, before the camera is undone. -/
theorem points (b : Fin 4) (d : Fin 2) (h w : Fin 224) (k : Fin 3) :
    val_main_v21 (F := Ideal) (ix3 b ⟨d.val * 50176 + (flat h w).val, by omega⟩ k)
      = ![tick w.val, tick h.val, ((![1, 2] d : ℝ) : EReal)] k := by
  pointwise [val_main_v21, val_main_v20, val_main_v19, val_main_v18, val_main_v17, val_main_v16, val_main_v15, val_main_v14,
    val_main_v13, val_main_cst_5, val_main_cst_6, val_main_cst_7]
  have eh : (⟨(flat h w).val / 224, by omega⟩ : Fin 224) = h := Fin.ext (by show (h.val * 224 + w.val) / 224 = h.val; omega)
  have ew : (⟨(flat h w).val % 224, by omega⟩ : Fin 224) = w := Fin.ext (by show (h.val * 224 + w.val) % 224 = w.val; omega)
  rw [eh, ew]
  rw [lit_two, ← EReal.coe_one]
  split_ifs with hk hd
  · rw [grid_at]
    have : k = 0 ∨ k = 1 := by omega
    rcases this with rfl | rfl <;> rfl
  · have hd0 : d = 0 := by omega
    have hk2 : k = 2 := by omega
    subst hd0 hk2
    rfl
  · have hd1 : d = 1 := by omega
    have hk2 : k = 2 := by omega
    subst hd1 hk2
    rfl

end Cert.Rays
end
-- ==== Proof.RefRays.lean ====
module

public import proofs.«01_k».proof.Proof.RefGrid

/-! # The reference's origins and directions at a pixel -/

@[expose] public section
noncomputable section
namespace Cert.Rays
open Idealize.ShloMosaic Idealize.ShloMosaic.TcCoe
open Cert.ReferenceIdeal Cert.ReferenceIdeal.Gen Cert.ReferenceIdeal.Read

variable (R : S4x3x3.Idx → EReal) (T : S4x3.Idx → EReal) (f q : S4x2.Idx → EReal)

/-- The plane of depth one or two. -/
def plane (d : Fin 2) (h w : Fin 224) : Fin 100352 := ⟨d.val * 50176 + (flat h w).val, by omega⟩

/-- The depth of plane `d`. -/
def depthOf (d : Fin 2) : EReal := ((![1, 2] d : ℝ) : EReal)

theorem undone_at (b : Fin 4) (d : Fin 2) (h w : Fin 224) (k : Fin 3) :
    val_main_v35 (F := Ideal) T f q (ix3 b (plane d h w) k)
      = undone (fun j => T (ix2 b j)) (fun j => f (ix2 b j)) (fun j => q (ix2 b j)) (depthOf d) h.val w.val k := by
  have pt : ∀ k : Fin 3, val_main_v21 (F := Ideal) (ix3 b (plane d h w) k) = _ := points b d h w
  pointwise [val_main_v35, val_main_v34, val_main_v33, val_main_v32, val_main_v31, val_main_v30, val_main_v29, val_main_v28,
    val_main_v27, val_main_v26, val_main_v25, val_main_v24, val_main_v23, val_main_v22]
  have pt2 : val_main_v21 (F := Ideal) (ix3 b (plane d h w) 2) = _ := pt 2
  by_cases hk : k.val < 2
  · have : k = 0 ∨ k = 1 := by omega
    rw [dif_pos hk, pt, pt2]
    rcases this with rfl | rfl <;> rfl
  · have hk2 : k = 2 := by omega
    subst hk2
    rw [dif_neg hk]
    exact congrArg (· - _) pt2

theorem world_at (b : Fin 4) (d : Fin 2) (h w : Fin 224) (c : Fin 3) :
    val_main_v36 (F := Ideal) R T f q (ix3 b (plane d h w) c)
      = world (fun i j => R (ix3 b i j)) (fun j => T (ix2 b j)) (fun j => f (ix2 b j)) (fun j => q (ix2 b j))
          (depthOf d) h.val w.val c := by
  rw [val_main_v36_apply]
  unfold world
  refine Finset.sum_congr rfl fun k _ => ?_
  rw [← undone_at]
  congr 2
  · funext a; fin_cases a <;> rfl
  · funext a; fin_cases a <;> rfl

theorem span_at (b : Fin 4) (h w : Fin 224) (c : Fin 3) :
    val_main_v39 (F := Ideal) R T f q (ix3 b (flat h w) c)
      = span (fun i j => R (ix3 b i j)) (fun j => T (ix2 b j)) (fun j => f (ix2 b j)) (fun j => q (ix2 b j)) h.val w.val c := by
  unfold span
  have e1 := world_at R T f q b 0 h w c
  have e2 := world_at R T f q b 1 h w c
  refine Eq.trans ?_ (congrArg₂ (· - ·) e2 e1)
  pointwise [val_main_v39, val_main_v38, val_main_v37]
  rw [show plane 0 h w = ⟨(flat h w).val, by omega⟩ from Fin.ext (by simp [plane]),
    show plane 1 h w = ⟨50176 + (flat h w).val, by omega⟩ from Fin.ext (by simp [plane])]

theorem start_at (b : Fin 4) (h w : Fin 224) (c : Fin 3) :
    val_main_v44 (F := Ideal) R T f q (ix4 b h w c)
      = start (fun i j => R (ix3 b i j)) (fun j => T (ix2 b j)) (fun j => f (ix2 b j)) (fun j => q (ix2 b j)) h.val w.val c := by
  unfold start
  refine Eq.trans ?_ (congrArg₂ (· - ·) (world_at R T f q b 0 h w c) (span_at R T f q b h w c))
  pointwise [val_main_v44, val_main_v40, val_main_v37]
  rw [show plane 0 h w = ⟨h.val * 224 + w.val, by omega⟩ from Fin.ext (by simp [plane, flat])]
  rfl

theorem heading_at (b : Fin 4) (h w : Fin 224) (c : Fin 3) :
    val_main_v45 (F := Ideal) R T f q (ix4 b h w c)
      = heading (fun i j => R (ix3 b i j)) (fun j => T (ix2 b j)) (fun j => f (ix2 b j)) (fun j => q (ix2 b j)) h.val w.val c := by
  unfold heading
  simp only [← span_at]
  pointwise [val_main_v45, val_main_v43, val_main_v42, val_main_v41, val_main_call3_v2, val_main_call3_v1, val_main_call3_v0, val_main_call3_cst]
  rfl

end Cert.Rays
end
-- ==== Proof.Equal.lean ====
module

public import proofs.«01_k».proof.Proof.Camera

/-! # The two programs' formulas agree

Where the rotation, the translation and the principal point are finite, no focal length is zero and the rotation is
invertible: every intermediate is then a real number, and the squared length is positive. -/

@[expose] public section
noncomputable section
namespace Cert.Rays
open Idealize.ShloMosaic

/-- Division by anything but zero is multiplication by a real. -/
theorem exists_inv {y : EReal} (h : y ≠ 0) : ∃ g : ℝ, ∀ x, Ideal.div x y = x * (g : EReal) := by
  induction y using EReal.rec with
  | bot => exact ⟨0, fun x => by simp [Ideal.div]⟩
  | top => exact ⟨0, fun x => by simp [Ideal.div]⟩
  | coe r => exact ⟨1 / r, fun x => Ideal.div_coe (by simpa using h) x⟩

/-- One Newton step leaves an exact reciprocal root as it is. -/
theorem invLen_real {s : ℝ} (hs : 0 < s) : invLen (s : EReal) = (((Real.sqrt s)⁻¹ : ℝ) : EReal) := by
  unfold invLen
  rw [Ideal.rsqrt_coe, if_neg (not_lt.2 hs.le), if_neg hs.ne']
  norm_cast
  have h : Real.sqrt s * Real.sqrt s = s := Real.mul_self_sqrt hs.le
  have h0 : Real.sqrt s ≠ 0 := (Real.sqrt_pos.2 hs).ne'
  have e : (1 / 2 : ℝ) * s * (Real.sqrt s)⁻¹ * (Real.sqrt s)⁻¹ = 1 / 2 := by
    field_simp
    rw [pow_two, h]
  rw [e]
  ring

variable (R : Fin 3 → Fin 3 → ℝ) (t : Fin 3 → ℝ) (q : Fin 2 → ℝ) (f : Fin 2 → EReal) (g : Fin 2 → ℝ)

/-- The determinant of the rotation. -/
def det3 : ℝ := R 0 0 * (R 1 1 * R 2 2 - R 1 2 * R 2 1) - R 0 1 * (R 1 0 * R 2 2 - R 1 2 * R 2 0)
  + R 0 2 * (R 1 0 * R 2 1 - R 1 1 * R 2 0)

/-- A real world component: of the ray through the pixel. -/
def compR (h w : ℕ) (c : Fin 3) : ℝ :=
  ((w : ℝ) * (2 / 223) - 1 - q 0) * g 0 * R c 0 + ((h : ℝ) * (2 / 223) - 1 - q 1) * g 1 * R c 1 + R c 2

/-- Its squared length. -/
def sumSqR (h w : ℕ) : ℝ := compR R q g h w 0 * compR R q g h w 0 + compR R q g h w 1 * compR R q g h w 1
  + compR R q g h w 2 * compR R q g h w 2

/-- A ray of an invertible rotation is not zero. -/
theorem sumSqR_pos (hd : det3 R ≠ 0) (h w : ℕ) : 0 < sumSqR R q g h w := by
  have hnn : 0 ≤ sumSqR R q g h w :=
    add_nonneg (add_nonneg (mul_self_nonneg _) (mul_self_nonneg _)) (mul_self_nonneg _)
  refine lt_of_le_of_ne hnn fun e => hd ?_
  have z : ∀ c, compR R q g h w c = 0 := by
    intro c
    have : compR R q g h w c * compR R q g h w c ≤ sumSqR R q g h w := by
      unfold sumSqR
      have p : ∀ c, 0 ≤ compR R q g h w c * compR R q g h w c := fun c => mul_self_nonneg _
      have := p 0; have := p 1; have := p 2
      fin_cases c <;> simp <;> linarith
    exact mul_self_eq_zero.1 (le_antisymm (this.trans e.symm.le) (mul_self_nonneg _))
  have z0 := z 0; have z1 := z 1; have z2 := z 2
  unfold compR at z0 z1 z2
  unfold det3
  linear_combination (R 1 0 * R 2 1 - R 1 1 * R 2 0) * z0 - (R 0 0 * R 2 1 - R 0 1 * R 2 0) * z1
    + (R 0 0 * R 1 1 - R 0 1 * R 1 0) * z2

section
variable (hg : ∀ j x, Ideal.div x (f j) = x * (g j : EReal))
include hg

/-- The kernel's component is that real. -/
theorem comp_real (h w : ℕ) (c : Fin 3) :
    comp (packed (fun i j => (R i j : EReal)) (fun j => (t j : EReal)) f fun j => (q j : EReal)) c h w
      = (compR R q g h w c : EReal) := by
  have e : ∀ j : Fin 3, rot (packed (fun i j => (R i j : EReal)) (fun j => (t j : EReal)) f fun j => (q j : EReal)) c j
      = (R c j : EReal) := fun j => by fin_cases c <;> fin_cases j <;> rfl
  unfold comp ray colX rowY
  rw [e, e, e]
  show Ideal.div (tick w - (q 0 : EReal)) (f 0) * _ + Ideal.div (tick h - (q 1 : EReal)) (f 1) * _ + _ = _
  rw [hg, hg, tick_real, tick_real]
  unfold compR
  norm_cast

/-- So is the step between the reference's planes. -/
theorem span_real (h w : ℕ) (c : Fin 3) :
    span (fun i j => (R i j : EReal)) (fun j => (t j : EReal)) f (fun j => (q j : EReal)) h w c
      = (compR R q g h w c : EReal) := by
  unfold span world undone
  simp only [Fin.sum_univ_three, Matrix.cons_val_zero, Matrix.cons_val_one, Matrix.cons_val, hg, tick_real]
  norm_cast
  unfold compR
  ring

/-- The origins agree. -/
theorem start_eq (h w : ℕ) (c : Fin 3) :
    start (fun i j => (R i j : EReal)) (fun j => (t j : EReal)) f (fun j => (q j : EReal)) h w c
      = centre (packed (fun i j => (R i j : EReal)) (fun j => (t j : EReal)) f fun j => (q j : EReal)) c := by
  have e : ∀ j : Fin 3, rot (packed (fun i j => (R i j : EReal)) (fun j => (t j : EReal)) f fun j => (q j : EReal)) c j
      = (R c j : EReal) := fun j => by fin_cases c <;> fin_cases j <;> rfl
  unfold start centre
  rw [span_real R t q f g hg, e, e, e]
  show _ = 0 - ((t 0 : EReal) * _ + (t 1 : EReal) * _ + (t 2 : EReal) * _)
  unfold world undone
  simp only [Fin.sum_univ_three, Matrix.cons_val_zero, Matrix.cons_val_one, Matrix.cons_val, hg, tick_real]
  norm_cast
  unfold compR
  ring

/-- The unit directions agree. -/
theorem heading_eq (hd : det3 R ≠ 0) (h w : ℕ) (c : Fin 3) :
    heading (fun i j => (R i j : EReal)) (fun j => (t j : EReal)) f (fun j => (q j : EReal)) h w c
      = unitDir (packed (fun i j => (R i j : EReal)) (fun j => (t j : EReal)) f fun j => (q j : EReal)) c h w := by
  have hs := sumSqR_pos R q g hd h w
  unfold heading unitDir sumSq
  simp only [comp_real R t q f g hg, span_real R t q f g hg, Fin.sum_univ_three]
  have e : (compR R q g h w 0 : EReal) * compR R q g h w 0 + (compR R q g h w 1 : EReal) * compR R q g h w 1
      + (compR R q g h w 2 : EReal) * compR R q g h w 2 = (sumSqR R q g h w : EReal) := by
    unfold sumSqR; norm_cast
  rw [e, invLen_real hs, Ideal.sqrt_coe, if_neg (not_lt.2 hs.le), Ideal.div_coe (Real.sqrt_pos.2 hs).ne', one_div]

end

end Cert.Rays
end
-- ==== Proof.Sound.lean ====
module

public import proofs.«01_k».proof.Pre_well_posed
public import proofs.«01_k».proof.Proof.Equal
public import proofs.«01_k».proof.Proof.Lits
public import Idealize.ShloMosaic.Lib.Pointwise
public import Idealize.ShloMosaic.PureOps.Ideal.Laws

/-! # What the precondition says of every camera -/

@[expose] public section
noncomputable section
namespace Cert.Rays
open Idealize.ShloMosaic Cert.Pre_well_posed

/-- The side conditions of the precondition's operations. -/
theorem preFacts : Cert.Pre_well_posed.Facts := by
  constructor <;> decide

attribute [local instance] preFacts

theorem lit_top : Ideal.ofBits .f32 0x7F800000#32 = ⊤ := by
  simp [Ideal.ofBits, Ideal.ieee]

theorem of_true {p : Prop} [Decidable p] (h : BitVec.ofBool (decide p) = 1#1) : p := by
  by_contra hp
  simp [hp] at h

/-- Below infinity in absolute value is a real number. -/
theorem real_of_abs {x : EReal} (h : max x (-x) < ⊤) : ∃ r : ℝ, x = (r : EReal) := by
  induction x using EReal.rec with
  | bot => simp at h
  | top => simp at h
  | coe r => exact ⟨r, rfl⟩

section
variable {Z : S4x224x224.Idx → EReal} {R : S4x3x3.Idx → EReal} {T : S4x3.Idx → EReal} {f q : S4x2.Idx → EReal}
  {X : S224x224x2.Idx → EReal}

theorem rotation_finite (h : (fn (F := Ideal) Z R T f q X).1 = fun _ => 1#1) (b : Fin 4) (i j : Fin 3) :
    ∃ r : ℝ, R (ix3 b i j) = (r : EReal) := by
  have e := congrFun h (ix3 b i j)
  pointwise [fn, fn_part1, fn_part2] at e
  rw [lit_top] at e
  exact real_of_abs (of_true e)

theorem translation_finite (h : (fn (F := Ideal) Z R T f q X).2.1 = fun _ => 1#1) (b : Fin 4) (j : Fin 3) :
    ∃ r : ℝ, T (ix2 b j) = (r : EReal) := by
  have e := congrFun h (ix2 b j)
  pointwise [fn, fn_part1, fn_part2] at e
  rw [lit_top] at e
  exact real_of_abs (of_true e)

theorem principal_finite (h : (fn (F := Ideal) Z R T f q X).2.2.1 = fun _ => 1#1) (b : Fin 4) (j : Fin 2) :
    ∃ r : ℝ, q (ix2 b j) = (r : EReal) := by
  have e := congrFun h (ix2 b j)
  pointwise [fn, fn_part1, fn_part2] at e
  rw [lit_top] at e
  exact real_of_abs (of_true e)

theorem focal_nonzero (h : (fn (F := Ideal) Z R T f q X).2.2.2.1 = fun _ => 1#1) (b : Fin 4) (j : Fin 2) :
    f (ix2 b j) ≠ 0 := by
  have e := congrFun h (ix2 b j)
  pointwise [fn, fn_part1, fn_part2] at e
  exact of_true e

theorem det_nonzero (h : (fn (F := Ideal) Z R T f q X).2.2.2.2 = fun _ => 1#1) (b : Fin 4) (r : Fin 3 → Fin 3 → ℝ)
    (hr : ∀ i j, R (ix3 b i j) = (r i j : EReal)) : det3 r ≠ 0 := by
  have e := congrFun h (ix1 b)
  pointwise [fn, fn_part1, fn_part2] at e
  simp only [hr] at e
  intro hd
  refine of_true e ?_
  rw [det3] at hd
  exact_mod_cast hd

end

/-- A camera that is all real, but for its focal lengths, which are not zero. -/
structure Sound (R : Fin 3 → Fin 3 → EReal) (t : Fin 3 → EReal) (f q : Fin 2 → EReal) : Prop where
  real : ∃ (R' : Fin 3 → Fin 3 → ℝ) (t' : Fin 3 → ℝ) (q' : Fin 2 → ℝ), R = (fun i j => (R' i j : EReal))
    ∧ t = (fun j => (t' j : EReal)) ∧ q = (fun j => (q' j : EReal)) ∧ det3 R' ≠ 0
  focal : ∀ j, f j ≠ 0

theorem Sound.start_eq {R : Fin 3 → Fin 3 → EReal} {t : Fin 3 → EReal} {f q : Fin 2 → EReal} (s : Sound R t f q) (h w : ℕ)
    (c : Fin 3) : start R t f q h w c = centre (packed R t f q) c := by
  obtain ⟨⟨R', t', q', rfl, rfl, rfl, hd⟩, hf⟩ := s
  choose g hg using fun j => exists_inv (hf j)
  exact Cert.Rays.start_eq R' t' q' f g hg h w c

theorem Sound.heading_eq {R : Fin 3 → Fin 3 → EReal} {t : Fin 3 → EReal} {f q : Fin 2 → EReal} (s : Sound R t f q) (h w : ℕ)
    (c : Fin 3) : heading R t f q h w c = unitDir (packed R t f q) c h w := by
  obtain ⟨⟨R', t', q', rfl, rfl, rfl, hd⟩, hf⟩ := s
  choose g hg using fun j => exists_inv (hf j)
  exact Cert.Rays.heading_eq R' t' q' f g hg hd h w c

/-- The precondition makes every camera sound. -/
theorem sound_of_pre {Z : S4x224x224.Idx → EReal} {R : S4x3x3.Idx → EReal} {T : S4x3.Idx → EReal} {f q : S4x2.Idx → EReal}
    {X : S224x224x2.Idx → EReal} (h1 : (fn (F := Ideal) Z R T f q X).1 = fun _ => 1#1)
    (h2 : (fn (F := Ideal) Z R T f q X).2.1 = fun _ => 1#1) (h3 : (fn (F := Ideal) Z R T f q X).2.2.1 = fun _ => 1#1)
    (h4 : (fn (F := Ideal) Z R T f q X).2.2.2.1 = fun _ => 1#1) (h5 : (fn (F := Ideal) Z R T f q X).2.2.2.2 = fun _ => 1#1)
    (b : Fin 4) : Sound (fun i j => R (ix3 b i j)) (fun j => T (ix2 b j)) (fun j => f (ix2 b j)) (fun j => q (ix2 b j)) := by
  choose R' hR using rotation_finite h1 b
  choose t' ht using translation_finite h2 b
  choose q' hq using principal_finite h3 b
  exact ⟨⟨R', t', q', funext fun i => funext fun j => hR i j, funext ht, funext hq, det_nonzero h5 b R' hR⟩, focal_nonzero h4 b⟩

end Cert.Rays
end
-- ==== Proof.Agree.lean ====
module

public import proofs.«01_k».proof.Defs
public import proofs.«01_k».proof.Proof.Host
public import proofs.«01_k».proof.Proof.RefRays
public import proofs.«01_k».proof.Proof.Sound
public import proofs.«01_k».proof.Proof.Gen.ReferenceIdeal.Run
public import Idealize.ShloMosaic.Adequacy

/-! # The reference's arrays are the kernel's -/

@[expose] public section
noncomputable section
namespace Cert.Rays
open Idealize.ShloMosaic Idealize.ShloMosaic.TcCoe Idealize.SL Idealize.SL.Sem
open Cert.ReferenceIdeal Cert.ReferenceIdeal.Gen Cert.ReferenceIdeal.Read

section
variable {R : S4x3x3.Idx → EReal} {T : S4x3.Idx → EReal} {f q : S4x2.Idx → EReal}

/-- Camera `b`, packed as the kernel packs it. -/
def bundled (R : S4x3x3.Idx → EReal) (T : S4x3.Idx → EReal) (f q : S4x2.Idx → EReal) (b : Fin 4) : Fin 16 → EReal :=
  packed (fun i j => R (ix3 b i j)) (fun j => T (ix2 b j)) (fun j => f (ix2 b j)) (fun j => q (ix2 b j))

theorem ref_origins (s : ∀ b : Fin 4, Sound (fun i j => R (ix3 b i j)) (fun j => T (ix2 b j)) (fun j => f (ix2 b j))
    (fun j => q (ix2 b j))) :
    val_main_v44 (F := Ideal) R T f q = fun j : S4x224x224x3.Idx => centre (bundled R T f q (j 0)) (j 3) := by
  funext j
  idx_vars j
  exact (start_at R T f q _ _ _ _).trans ((s _).start_eq _ _ _)

theorem ref_dirs (s : ∀ b : Fin 4, Sound (fun i j => R (ix3 b i j)) (fun j => T (ix2 b j)) (fun j => f (ix2 b j))
    (fun j => q (ix2 b j))) :
    val_main_v45 (F := Ideal) R T f q
      = fun j : S4x224x224x3.Idx => unitDir (bundled R T f q (j 0)) (j 3) (j 1).val (j 2).val := by
  funext j
  idx_vars j
  exact (heading_at R T f q _ _ _ _).trans ((s _).heading_eq _ _ _)

theorem ref_samples_array (Z : S4x224x224.Idx → EReal) :
    val_main_v46 (F := Ideal) Z = fun j : S4x224x224x64.Idx => sample (j 3).val (Z (ix3 (j 0) (j 1) (j 2))) := by
  funext j
  idx_vars j
  exact ref_samples Z _ _ _ _

theorem ref_grid_array (X : S224x224x2.Idx → EReal) :
    val_main_v48 (F := Ideal) X = fun j : S4x224x224x2.Idx => X (ix3 (j 1) (j 2) (j 3)) := by
  funext j
  idx_vars j
  exact ref_grid X _ _ _ _

end

attribute [local instance] preFacts Cert.KernelIdeal.Gen.facts Cert.ReferenceIdeal.Gen.facts

/-- The kernel's four results are the reference's. -/
theorem same_results : Cert.algebraic_KernelIdeal_ReferenceIdeal_pre_well_posed := by
  intro m g m' g' hpre hagree
  refine ⟨_, _, _, _, θ_run_mono (θ_run_and (kernel_run m g) (Cert.KernelIdeal.Gen.unchanged m g)) fun _ h c =>
      ⟨(h.1 c).1, (h.1 c).2.1, (h.1 c).2.2.1, (h.1 c).2.2.2, h.2 c⟩,
    θ_run_mono (Cert.ReferenceIdeal.Value.run m' g') fun _ h c => ?_⟩
  obtain ⟨e0, e1, e2, e3, e4, e5⟩ := hagree c
  obtain ⟨p1, p2, p3, p4, p5⟩ := hpre c
  have s := sound_of_pre p1 p2 p3 p4 p5
  obtain ⟨r0, r1, r2, r3, args⟩ := h c
  refine ⟨r0.trans ?_, r1.trans ?_, r2.trans ?_, r3.trans ?_, args⟩
  · rw [val_main_v44_eq, e1, e2, e3, e4]
    exact (ref_origins s).trans (funext fun j => congrArg (fun p => centre p (j 3)) (camIn_eq m c (j 0)).symm)
  · rw [val_main_v45_eq, e1, e2, e3, e4]
    exact (ref_dirs s).trans
      (funext fun j => congrArg (fun p => unitDir p (j 3) (j 1).val (j 2).val) (camIn_eq m c (j 0)).symm)
  · refine (val_main_v46_eq _).trans ?_
    rw [e0]
    exact ref_samples_array _
  · refine (val_main_v48_eq _).trans ?_
    rw [e5]
    exact ref_grid_array _

/-- The reference runs to its end, leaving the arguments and every counter as they were. -/
theorem reference_frame : Cert.quiescent_ReferenceIdeal := by
  intro m g _
  exact θ_run_mono (Cert.ReferenceIdeal.Value.run m g) fun r h =>
    ⟨fun c => (h c).2.2.2.2, sem_eq_zero_of_no_sems (by decide) r.2⟩

end Cert.Rays
end
-- ==== Proof.lean ====
/- The claims about the ray-bundle kernel, put together from the modules under Proof/: `Host` says what the kernel
   leaves in its four results, `RefGrid` and `RefRays` what the reference leaves, `Equal` and `Sound` why the two are
   the same under the precondition, and `Agree` states the value claim. The frames of the two kernel programs are the
   generated ones. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Camera
public import proofs.«01_k».proof.Proof.Lits
public import proofs.«01_k».proof.Proof.Block
public import proofs.«01_k».proof.Proof.Planes
public import proofs.«01_k».proof.Proof.Arrays
public import proofs.«01_k».proof.Proof.Host
public import proofs.«01_k».proof.Proof.RefGrid
public import proofs.«01_k».proof.Proof.RefRays
public import proofs.«01_k».proof.Proof.Equal
public import proofs.«01_k».proof.Proof.Sound
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Frames of the three programs, the two named constants, and the value claim on all four results. -/
theorem claim : Cert.Claim := ⟨Cert.Kernel.Gen.facts, Cert.KernelIdeal.Gen.facts, Cert.ReferenceIdeal.Gen.facts,
  Cert.Rays.preFacts,
  fun m g _ => Cert.Kernel.Gen.frame m g,
  fun m g _ => Cert.KernelIdeal.Gen.frame m g,
  fun m g _ => Cert.KernelIdeal.Gen.frame m g,
  Cert.Rays.reference_frame,
  fun m g _ => Cert.Rays.reference_frame m g trivial,
  ⟨IdealRules.named_const.statement Cert.KernelIdeal.κ "depth_step" .f32 0x3C820821#32 _ rfl,
    IdealRules.named_const.statement Cert.KernelIdeal.κ "grid_step" .f32 0x3C12F114#32 _ rfl⟩,
  Cert.Rays.same_results⟩

end Cert.Proof

end
